-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S4096x50 : Shape := ⟨2, ![4096, 50]⟩
abbrev S100000x128 : Shape := ⟨2, ![100000, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S32x16x400 : Shape := ⟨3, ![32, 16, 400]⟩
abbrev S204800x128 : Shape := ⟨2, ![204800, 128]⟩
abbrev S400 : Shape := ⟨1, ![400]⟩
abbrev S400x128 : Shape := ⟨2, ![400, 128]⟩
abbrev S_ : Shape := ⟨0, ![]⟩
abbrev S1x1x400 : Shape := ⟨3, ![1, 1, 400]⟩
abbrev S4096x50x128 : Shape := ⟨3, ![4096, 50, 128]⟩

abbrev nBuf : Table → Nat
  | .hbm => 5
  | .local .scVector .vmem => 4
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S32x16x400, .i32⟩
  | .hbm, ⟨3, _⟩ => ⟨S204800x128, .f32⟩
  | .hbm, ⟨4, _⟩ => ⟨S4096x50x128, .f32⟩
  | .local .scVector .vmem, ⟨0, _⟩ => ⟨S400, .i32⟩
  | .local .scVector .vmem, ⟨1, _⟩ => ⟨S400, .i32⟩
  | .local .scVector .vmem, ⟨2, _⟩ => ⟨S400x128, .f32⟩
  | .local .scVector .vmem, ⟨3, _⟩ => ⟨S400x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let c0_i32_2 : BitVec 32 := 0#32
  ![v1.toNat, 1, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_11 : BitVec 32 := 2#32
  let c0_i32_12 : BitVec 32 := 0#32
  ![v1.toNat, 2, 0]
def k0_off4 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v21 : BitVec 32 := Scalar.addi v2 c0_i32_14
  let c0_i32_15 : BitVec 32 := 0#32
  ![v21.toNat, 0]
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let c0_i32_24 : BitVec 32 := 0#32
  ![v1.toNat, 3, 0]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let c0_i32_39 : BitVec 32 := 0#32
  ![v1.toNat, 4, 0]
def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let c0_i32_54 : BitVec 32 := 0#32
  ![v1.toNat, 5, 0]
def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let c0_i32_69 : BitVec 32 := 0#32
  ![v1.toNat, 6, 0]
def k0_off9 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32 : BitVec 32 := 7#32
  let c0_i32_84 : BitVec 32 := 0#32
  ![v1.toNat, 7, 0]
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32_99 : BitVec 32 := 0#32
  ![v1.toNat, 8, 0]
def k0_off11 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32 : BitVec 32 := 9#32
  let c0_i32_114 : BitVec 32 := 0#32
  ![v1.toNat, 9, 0]
def k0_off12 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let c0_i32_129 : BitVec 32 := 0#32
  ![v1.toNat, 10, 0]
def k0_off13 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32 : BitVec 32 := 11#32
  let c0_i32_144 : BitVec 32 := 0#32
  ![v1.toNat, 11, 0]
def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let c0_i32_159 : BitVec 32 := 0#32
  ![v1.toNat, 12, 0]
def k0_off15 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let c0_i32_174 : BitVec 32 := 0#32
  ![v1.toNat, 13, 0]
def k0_off16 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c14_i32 : BitVec 32 := 14#32
  let c0_i32_189 : BitVec 32 := 0#32
  ![v1.toNat, 14, 0]
def k0_off17 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32 : BitVec 32 := 15#32
  let c0_i32_204 : BitVec 32 := 0#32
  ![v1.toNat, 15, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Words.lean ====
/-
  The tokens as words: the precondition read at a token, and the reference's own arithmetic on one (the wrap of a negative
  token, the in-range mask, the gather's clamp), which leave a token of the vocabulary as it is.
-/
module

public import proofs.«01_k».proof.Proof.Gen.Pre_in_vocabulary
public import proofs.«01_k».proof.Proof.Gen.ReferenceIdeal.Run
public import Idealize.ShloMosaic.Lib.ValueIdxCore
public import Idealize.ShloMosaic.PureOps.Reduce

@[expose] public section

noncomputable section

namespace Cert.Proof.Words

open Idealize.ShloMosaic Idealize.ShloMosaic.ValueIdx

/-! ## A conjunction taken over an array -/

theorem and_bits (p q : Bool) : IntOp.andi (BitVec.ofBool p) (BitVec.ofBool q) = BitVec.ofBool (p && q) := by
  cases p <;> cases q <;> decide
theorem bit_one (p : Bool) : (BitVec.ofBool p = 1#1) ↔ p = true := by cases p <;> decide
theorem and_one (a b : BitVec 1) : IntOp.andi a b = 1#1 ↔ a = 1#1 ∧ b = 1#1 := by
  rcases BitVec.eq_zero_or_eq_one a with rfl | rfl <;> rcases BitVec.eq_zero_or_eq_one b with rfl | rfl <;> decide

/-- A running conjunction is one exactly when its start and every term are. -/
theorem foldl_and {I : Type} (x : I → BitVec 1) (l : List I) (a : BitVec 1) :
    l.foldl (fun r i => IntOp.andi r (x i)) a = 1#1 ↔ a = 1#1 ∧ ∀ i ∈ l, x i = 1#1 := by
  induction l generalizing a with
  | nil => simp
  | cons i l ih => rw [List.foldl_cons, ih, and_one, List.forall_mem_cons, and_assoc]

/-- A conjunction reduced over an array is one exactly when the start and every element reduced are. -/
theorem reduce_and {s t u : Shape} {axes : List (Fin s.rank)} (x : s.Idx → BitVec 1) (v : u.Idx → BitVec 1) (h : s.ReducesTo axes t) (hu : 0 < u.numel)
    (j : t.Idx) : Host.reduce IntOp.andi x v h hu j = 1#1 ↔ v (Shape.Idx.first hu) = 1#1 ∧ ∀ i, h.drop i = j → x i = 1#1 := by
  rw [Host.reduce_eq_foldl, foldl_and]
  refine and_congr_right fun _ => ⟨fun H i e => H i ?_, fun H i hi => H i (of_decide_eq_true (List.mem_filter.mp hi).2)⟩
  exact List.mem_filter.mpr ⟨List.mem_map.mpr ⟨s.rowMajor i, List.mem_finRange _, s.rowMajor.symm_apply_apply i⟩, decide_eq_true e⟩

/-! ## One word -/

/-- A word between 0 and 100000, as signed words, is below 100000 as a number. -/
theorem lt_of_between (v : BitVec 32) (e : IntOp.andi (IntOp.cmpi .sge v 0#32) (IntOp.cmpi .slt v 100000#32) = 1#1) : v.toNat < 100000 := by
  simp only [IntOp.cmpi, and_bits, bit_one, Bool.and_eq_true, BitVec.sle_eq_decide, BitVec.slt_eq_decide,
    decide_eq_true_eq, BitVec.toInt_eq_toNat_cond, BitVec.toNat_ofNat, Nat.reducePow, Nat.reduceMod] at e
  omega
/-- Such a word is not negative, and lies between 0 and 99999. -/
theorem not_neg (v : BitVec 32) (h : v.toNat < 100000) : IntOp.cmpi .slt v 0#32 = 0#1 := by
  refine eq_zero_of_ne_one fun e => ?_
  simp only [IntOp.cmpi, bit_one, BitVec.slt_eq_decide,
    decide_eq_true_eq, BitVec.toInt_eq_toNat_cond, BitVec.toNat_ofNat, Nat.reducePow, Nat.reduceMod] at e
  omega
theorem between (v : BitVec 32) (h : v.toNat < 100000) : IntOp.andi (IntOp.cmpi .sge v 0#32) (IntOp.cmpi .sle v 99999#32) = 1#1 := by
  simp only [IntOp.cmpi, and_bits, bit_one, Bool.and_eq_true, BitVec.sle_eq_decide,
    decide_eq_true_eq, BitVec.toInt_eq_toNat_cond, BitVec.toNat_ofNat, Nat.reducePow, Nat.reduceMod]
  omega
/-- The row it names, the clamp into the table leaving it. -/
theorem clamp (v : BitVec 32) (h : v.toNat < 100000) : min v.toInt.toNat (100000 - 1) = v.toNat := by
  rw [BitVec.toInt_eq_toNat_cond]
  split <;> omega

/-! ## The precondition -/

/-- The precondition, read at a token: it is a row of the table. -/
theorem of_pre {F : FTy → Type} [FloatOps F] (a : IVec ⟨2, ![4096, 50]⟩ 32) (b : FVec F ⟨2, ![100000, 128]⟩ .f32)
    (h : Cert.Pre_in_vocabulary.fn (F := F) a b = fun _ => 1#1) (j : (⟨2, ![4096, 50]⟩ : Shape).Idx) : (a j).toNat < 100000 := by
  have e := congrFun h ix0
  simp only [Cert.Pre_in_vocabulary.fn] at e
  exact lt_of_between _ (((reduce_and _ _ _ _ _).mp e).2 j (funext fun d => d.elim0))

end Cert.Proof.Words

end
-- ==== Proof.Reference.lean ====
/-
  The reference's value: under the precondition its result at batch entry `b`, token `s`, column `k` is the table at the row the
  token names and column `k`. And its frame.
-/
module

public import proofs.«01_k».proof.Proof.Words
public import Idealize.ShloMosaic.Lib.Quiescent

@[expose] public section

noncomputable section

namespace Cert.Proof.Reference

open Cert.ReferenceIdeal Cert.ReferenceIdeal.Gen Idealize.ShloMosaic Idealize.ShloMosaic.TcCoe Idealize.SL.Sem Cert.Proof.Words

/-- The index of the tokens at a batch entry and a place, and of the start indices there. -/
def placeIx (b s : ℕ) (hb : b < 4096) (hs : s < 50) : S4096x50.Idx :=
  fun a => match a with | 0 => ⟨b, hb⟩ | 1 => ⟨s, hs⟩ | ⟨_ + 2, h⟩ => absurd h (Nat.not_lt.2 (Nat.le_add_left _ _))
def startIx (b s : ℕ) (hb : b < 4096) (hs : s < 50) : S4096x50x1.Idx :=
  fun a => match a with | 0 => ⟨b, hb⟩ | 1 => ⟨s, hs⟩ | 2 => ⟨0, Nat.one_pos⟩ | ⟨_ + 3, h⟩ => absurd h (Nat.not_lt.2 (Nat.le_add_left _ _))
/-- The index of the table at a row and a column. -/
def rowIx (r k : ℕ) (hr : r < 100000) (hk : k < 128) : S100000x128.Idx :=
  fun a => match a with | 0 => ⟨r, hr⟩ | 1 => ⟨k, hk⟩ | ⟨_ + 2, h⟩ => absurd h (Nat.not_lt.2 (Nat.le_add_left _ _))

/-- THE LOOKUP, as the problem states it: at batch entry `b`, token `s` and column `k`, the table's row at that token, column `k`. -/
def lookup {α : Type} (a : IVec S4096x50 32) (ha : ∀ j, (a j).toNat < 100000) (x : S100000x128.Idx → α) : S4096x50x128.Idx → α :=
  fun j => x (rowIx (a (placeIx (j 0).val (j 1).val (j 0).isLt (j 1).isLt)).toNat (j 2).val (ha _) (j 2).isLt)

/-- Equal tokens and tables have equal lookups. -/
theorem lookup_congr {α : Type} {a a' : IVec S4096x50 32} (ha : ∀ j, (a j).toNat < 100000) (ha' : ∀ j, (a' j).toNat < 100000)
    {x x' : S100000x128.Idx → α} (ea : a' = a) (ex : x' = x) : lookup a' ha' x' = lookup a ha x := by
  subst ea ex; rfl

/-- The gather of rows, read at an index: the operand at the start index's row, clamped into the table, same column. -/
theorem gather_rows {α : Type} (x : S100000x128.Idx → α) (i : IVec S4096x50x1 32) (j : S4096x50x128.Idx) :
    Host.gather gather_S100000x128_S4096x50x1_S4096x50x128_2_0_n_n_0_2_1128 x i j
      = x (rowIx (min (i (startIx (j 0).val (j 1).val (j 0).isLt (j 1).isLt)).toInt.toNat (100000 - 1)) (j 2).val (by omega) (j 2).isLt) := by
  unfold Host.gather
  congr 1
  funext a
  refine Fin.ext ?_
  let D := gather_S100000x128_S4096x50x1_S4096x50x128_2_0_n_n_0_2_1128
  show D.start j i a + D.batchCoord j a + D.offCoord j a = _
  have h01 : a = 0 ∨ a = 1 := by
    match a with
    | ⟨0, _⟩ => exact Or.inl rfl
    | ⟨1, _⟩ => exact Or.inr rfl
  rw [GatherDims.batchCoord_eq_zero D _ _ List.not_mem_nil]
  rcases h01 with rfl | rfl
  · rw [GatherDims.offCoord_eq_zero D _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx j ⟨List.idxOf (0 : Fin 2) D.startIndexMap, List.idxOf_lt_length_iff.2 (List.mem_singleton.mpr rfl)⟩
        = startIx (j 0).val (j 1).val (j 0).isLt (j 1).isLt := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ D.startIndexMap from fun h => absurd (List.mem_singleton.mp h) (by decide))]
    unfold GatherDims.offCoord
    rw [dif_pos (show (1 : Fin 2) ∈ D.sKept from (GatherDims.mem_sKept _ _).mpr
      ⟨fun h => absurd (List.mem_singleton.mp h) (by decide), List.not_mem_nil⟩)]
    simp only [Nat.zero_add]
    rfl

/-- The start indices: the tokens, the negative ones wrapped. -/
abbrev starts (a : IVec S4096x50 32) : IVec S4096x50x1 32 :=
  broadcastInDim S4096x50x1 ![0, 1] bcast_S4096x50_S4096x50x1_0_1 (select (cmpi .slt a (broadcastInDim S4096x50 ![] bcast_S_S4096x50 (constantI S_ 32 0#32)))
    (addi a (broadcastInDim S4096x50 ![] bcast_S_S4096x50 (constantI S_ 32 100000#32))) a)

/-- A start index is its token. -/
theorem starts_apply (a : IVec S4096x50 32) (ha : ∀ j, (a j).toNat < 100000) (i : S4096x50x1.Idx) :
    starts a i = a (placeIx (i 0).val (i 1).val (i 0).isLt (i 1).isLt) := by
  have e : ∀ p : S4096x50.Idx, select (cmpi .slt a (broadcastInDim S4096x50 ![] bcast_S_S4096x50 (constantI S_ 32 0#32)))
      (addi a (broadcastInDim S4096x50 ![] bcast_S_S4096x50 (constantI S_ 32 100000#32))) a p = a p := by
    intro p
    show Scalar.select (IntOp.cmpi .slt (a p) 0#32) _ (a p) = a p
    rw [not_neg _ (ha p)]; rfl
  refine (e _).trans (congrArg a (funext fun d => Fin.ext ?_))
  match d with
  | ⟨0, _⟩ => rfl
  | ⟨1, _⟩ => rfl

/-- A select under a mask that is one everywhere is its first operand. -/
theorem masked {α : Type} (M : IVec S4096x50 1) (hM : ∀ p, M p = 1#1) (G N : S4096x50x128.Idx → α) :
    select (broadcastInDim S4096x50x128 ![0, 1] bcast_S4096x50_S4096x50x128_0_1 M) G N = G := by
  funext j
  have e : broadcastInDim S4096x50x128 ![0, 1] bcast_S4096x50_S4096x50x128_0_1 M j = 1#1 := hM _
  show Scalar.select (broadcastInDim S4096x50x128 ![0, 1] bcast_S4096x50_S4096x50x128_0_1 M j) (G j) (N j) = G j
  rw [e]; rfl

/-- The mask of the start indices in the table. -/
abbrev mask (a : IVec S4096x50 32) : IVec S4096x50 1 :=
  Host.reduce IntOp.andi (andi (cmpi .sge (starts a) (broadcastInDim S4096x50x1 ![] bcast_S_S4096x50x1 (constantI S_ 32 0#32)))
      (cmpi .sle (starts a) (broadcastInDim S4096x50x1 ![0, 1, 2] bcast_S1x1x1_S4096x50x1_0_1_2 (broadcastInDim S1x1x1 ![2] bcast_S1_S1x1x1_2 (constantI S1 32 99999#32)))))
    (constantI S_ 1 1#1) reducesTo_S4096x50x1_S4096x50_d2 h_S_

/-- It is one everywhere. -/
theorem mask_one (a : IVec S4096x50 32) (ha : ∀ j, (a j).toNat < 100000) (p : S4096x50.Idx) : mask a p = 1#1 := by
  refine (reduce_and _ _ _ _ _).mpr ⟨rfl, fun i _ => ?_⟩
  show IntOp.andi (IntOp.cmpi .sge (starts a i) 0#32) (IntOp.cmpi .sle (starts a i) 99999#32) = 1#1
  rw [starts_apply a ha]
  exact between _ (ha _)

/-- The gather at the start indices is the lookup. -/
theorem gathered {α : Type} (a : IVec S4096x50 32) (ha : ∀ j, (a j).toNat < 100000) (x : S100000x128.Idx → α) :
    Host.gather gather_S100000x128_S4096x50x1_S4096x50x128_2_0_n_n_0_2_1128 x (starts a) = lookup a ha x := by
  funext j
  rw [gather_rows]
  unfold lookup
  refine congrArg x (funext fun d => Fin.ext ?_)
  match d with
  | ⟨0, _⟩ =>
    show min (starts a _).toInt.toNat (100000 - 1) = _
    rw [starts_apply a ha]
    exact clamp _ (ha _)
  | ⟨1, _⟩ => rfl

/-- The reference's result is the lookup. -/
theorem value {F : FTy → Type} [FloatOps F] (a : IVec S4096x50 32) (ha : ∀ j, (a j).toNat < 100000) (x : FVec F S100000x128 .f32) :
    select (broadcastInDim S4096x50x128 ![0, 1] bcast_S4096x50_S4096x50x128_0_1 (mask a))
      (Host.gather gather_S100000x128_S4096x50x1_S4096x50x128_2_0_n_n_0_2_1128 x (starts a))
      (broadcastInDim S4096x50x128 ![] bcast_S_S4096x50x128 (constant (F := F) S_ .f32 0x7FC00000#32))
      = lookup a ha x :=
  (masked _ (mask_one a ha) _ _).trans (gathered a ha x)

/-- The reference's run: its result is the lookup of its arguments, which it leaves. -/
theorem run {F : FTy → Type} [FloatOps F] (m : (ℓ : Loc nD τ sig) → Buf (Elt F) ℓ) (ρ : Dev nD → PrngReg)
    (hm : ∀ (c : Dev nD) (j : S4096x50.Idx), ((m ((c.tc : Thread nD τ).loc main_arg0) : IVec S4096x50 32) j).toNat < 100000) :
    θ_run defs (onTc (τ := τ) (main (F := F))) ⟨m, fun _ => 0, ρ⟩ fun r => ∀ c : Dev nD,
      r.2.mem ((c.tc : Thread nD τ).loc main_v0) = lookup (m ((c.tc : Thread nD τ).loc main_arg0)) (hm c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value (F := F) _ (hm c) _), (h c).2⟩) (Cert.ReferenceIdeal.Value.run m ρ)

/-- The reference runs, its arguments unchanged, its semaphores at zero (it has none). -/
theorem quiet {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Cert.ReferenceIdeal.Value.run m ρ)

end Cert.Proof.Reference

end
-- ==== Proof.SetupIdeal.lean ====
/-
  The set-up of the embedding kernel's launch: the program as the SparseCore launch theorem sees it, the resource algebra,
  the arrays' places, and the CHUNKS. The 204800 looked-up rows are 512 chunks of 400: chunk `n` is line `n % 16` of block
  `n / 16` of the tokens, which @main has cut into 32 blocks of 16 lines of 400, and rows `n * 400 …` of the output. Task `w`
  of the 32 does the chunks `16 * w … 16 * w + 15`. This module says what each chunk reads and writes, and that every offset the
  program computes is the offset of the chunk the program means.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Value
public import proofs.«01_k».proof.Proof.Gen.KernelIdeal
public import proofs.«01_k».proof.Proof.Gen.KernelIdeal.Skeleton

@[expose] public section

noncomputable section

namespace Cert.Proof.EmbIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side facts: the handshakes' semaphores differ and belong to the kinds that use them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The tokens, the table and the kernel's output, on a device. -/
abbrev tokLoc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1

abbrev tokV : Memref sig .scVector .hbm S32x16x400 .i32 := Memref.whole main_v0_scv
abbrev tabV : Memref sig .scVector .hbm S100000x128 .f32 := Memref.whole main_arg1_scv
abbrev outV : Memref sig .scVector .hbm S204800x128 .f32 := Memref.whole main_v1_scv
abbrev ix0 : Memref sig .scVector .vmem S400 .i32 := Memref.whole cc0_scratch0
abbrev ix1 : Memref sig .scVector .vmem S400 .i32 := Memref.whole cc0_scratch1
abbrev rw0 : Memref sig .scVector .vmem S400x128 .f32 := Memref.whole cc0_scratch2
abbrev rw1 : Memref sig .scVector .vmem S400x128 .f32 := Memref.whole cc0_scratch3

/-! ## The chunks -/

/-- Where chunk `n`'s tokens start, and its output rows. -/
def tokOff (n : ℕ) : Fin 3 → ℕ := ![n / 16, n % 16, 0]
def outOff (n : ℕ) : Fin 2 → ℕ := ![n * 400, 0]

theorem tokOff_inb {n : ℕ} (hn : n < 512) : ∀ a, tokOff n a + S1x1x400.size a ≤ S32x16x400.size a := by
  intro a
  match a with
  | 0 => show n / 16 + 1 ≤ 32; omega
  | 1 => show n % 16 + 1 ≤ 16; omega
  | 2 => show 0 + 400 ≤ 400; omega
theorem outOff_inb {n : ℕ} (hn : n < 512) : ∀ a, outOff n a + S400x128.size a ≤ S204800x128.size a := by
  intro a
  match a with
  | 0 => show n * 400 + 400 ≤ 204800; omega
  | 1 => show 0 + 128 ≤ 128; omega

/-- The tokens a transfer from offset `o` reads, as one list of 400. -/
abbrev tokAt (o : Fin 3 → ℕ) (h : ∀ a, o a + S1x1x400.size a ≤ S32x16x400.size a) : Memref sig .scVector .hbm S400 .i32 :=
  (tokV.slice (Rect.unit (s := S32x16x400) o S1x1x400.size h) (fun _ => rfl)).squeeze S400 squeezes_S1x1x400_S400
/-- The output rows a transfer to offset `o` writes. -/
abbrev outAt (o : Fin 2 → ℕ) (h : ∀ a, o a + S400x128.size a ≤ S204800x128.size a) : Memref sig .scVector .hbm S400x128 .f32 :=
  outV.slice (Rect.unit (s := S204800x128) o S400x128.size h) (fun _ => rfl)
/-- The table, as the gathers address it. -/
abbrev tabAll : Memref sig .scVector .hbm S100000x128 .f32 :=
  tabV.slice (Rect.unit (s := S100000x128) ![0, 0] S100000x128.size inb_S100000x128_S100000x128_0_0) (fun _ => rfl)

/-- The index of the tokens at a block, a line and a column. -/
def tokIx (b l c : ℕ) (hb : b < 32) (hl : l < 16) (hc : c < 400) : S32x16x400.Idx :=
  fun a => match a with | 0 => ⟨b, hb⟩ | 1 => ⟨l, hl⟩ | 2 => ⟨c, hc⟩ | ⟨_ + 3, h⟩ => absurd h (Nat.not_lt.2 (Nat.le_add_left _ _))
/-- The index of the table at a row and a column. -/
def tabIx (r c : ℕ) (hr : r < 100000) (hc : c < 128) : S100000x128.Idx :=
  fun a => match a with | 0 => ⟨r, hr⟩ | 1 => ⟨c, hc⟩ | ⟨_ + 2, h⟩ => absurd h (Nat.not_lt.2 (Nat.le_add_left _ _))

/-- The token looked up for output row `r`: column `r % 400` of line `r / 400`, the lines counted through the blocks. -/
def tokOf (t : IVec S32x16x400 32) (r : ℕ) : BitVec 32 :=
  t (tokIx (r / 6400 % 32) (r / 400 % 16) (r % 400) (Nat.mod_lt _ (by decide)) (Nat.mod_lt _ (by decide)) (Nat.mod_lt _ (by decide)))

/-- Every token is a row of the table. -/
def InTable (t : IVec S32x16x400 32) : Prop := ∀ j, (t j).toNat < 100000

/-- THE LOOKUP: row `r` of the output is the table's row at `r`'s token. -/
def look (t : IVec S32x16x400 32) (ht : InTable t) (x : FVec F S100000x128 .f32) : FVec F S204800x128 .f32 :=
  fun p => x (tabIx (tokOf t (p 0).val).toNat (p 1).val (ht _) (p 1).isLt)

/-- Chunk `n`'s 400 tokens, and the 400 table rows they name. -/
def chunkIx (t : IVec S32x16x400 32) (n : ℕ) : S400.Idx → Elt F .i32 := fun y => tokOf t (n * 400 + (y 0).val)
def chunkRows (t : IVec S32x16x400 32) (ht : InTable t) (x : FVec F S100000x128 .f32) (n : ℕ) : S400x128.Idx → Elt F .f32 :=
  fun y => x (tabIx (tokOf t (n * 400 + (y 0).val)).toNat (y 1).val (ht _) (y 1).isLt)

/-- The output's elements that chunk `n` owns. -/
def outSet (n : ℕ) : Finset S204800x128.Idx := Finset.univ.filter fun p => (p 0).val / 400 = n

/-- The task's number, and the first of its chunks. -/
def base (i : grid0.Coords) : ℕ := 16 * (2 * (i 1).val + (i 0).val)
theorem base_lt (i : grid0.Coords) : base i + 15 < 512 := by
  have h0 : (i 0).val < 2 := (i 0).isLt
  have h1 : (i 1).val < 16 := (i 1).isLt
  unfold base; omega

/-! ## The program's offsets are the chunks' -/

/-- Where the program loads the tokens of its sixteen chunks from. -/
def tokOffs (i : grid0.Coords) : Fin 16 → Fin 3 → ℕ :=
  ![k0_off1 i, k0_off2 i, k0_off3 i, k0_off5 i, k0_off6 i, k0_off7 i, k0_off8 i, k0_off9 i, k0_off10 i, k0_off11 i, k0_off12 i,
    k0_off13 i, k0_off14 i, k0_off15 i, k0_off16 i, k0_off17 i]

theorem off_tok : ∀ (i : grid0.Coords) (c : Fin 16), tokOffs i c = tokOff (base i + c.val) := by decide +kernel
theorem off_out : ∀ (i : grid0.Coords) (c : Fin 16), k0_off4 i (BitVec.ofNat 32 (400 * c.val)) = outOff (base i + c.val) := by decide +kernel

end Cert.Proof.EmbIdeal

end
-- ==== Proof.ChunksIdeal.lean ====
/-
  What a chunk's three transfers move: the tokens the load brings are `chunkIx`, the rows the gather brings at those tokens
  are `chunkRows`, and those rows written out are the lookup on the chunk's part of the output.
-/
module

public import proofs.«01_k».proof.Proof.SetupIdeal

@[expose] public section

noncomputable section

namespace Cert.Proof.EmbIdeal

open Cert.KernelIdeal Cert.KernelIdeal.Gen

open Idealize.ShloMosaic

variable {F : FTy → Type}

/-- The index into a block of one line over a position of a list of 400. -/
def rowIx (y : S400.Idx) : S1x1x400.Idx :=
  fun a => match a with | 0 => ⟨0, by decide⟩ | 1 => ⟨0, by decide⟩ | 2 => y 0 | ⟨_ + 3, h⟩ => absurd h (Nat.not_lt.2 (Nat.le_add_left _ _))

/-- Squeezing a block of one line of 400 keeps the column. -/
theorem squeeze_ix (y : S400.Idx) : Shape.reshapeEquiv squeezes_S1x1x400_S400.numel_eq y = rowIx y := by
  apply Shape.reshapeEquiv_eq_of_rowMajor
  refine (Shape.rowMajor_val_three (d := ![1, 1, 400]) (rowIx y)).trans ?_
  refine Eq.trans ?_ (Shape.rowMajor_val_one (d := ![400]) y).symm
  show (0 * 1 + 0) * 400 + (y 0).val = (y 0).val
  omega

/-- The load of chunk `n` brings its tokens. -/
theorem read_tokAt (t : IVec S32x16x400 32) {n : ℕ} (hn : n < 512) (h : ∀ a, tokOff n a + S1x1x400.size a ≤ S32x16x400.size a) :
    (tokAt (tokOff n) h).view.read (Elt F) t = chunkIx (F := F) t n := by
  funext y
  rw [View.read_apply, cast_eq]
  unfold chunkIx tokOf
  refine congrArg t ?_
  show (Rect.unit (s := S32x16x400) (tokOff n) S1x1x400.size h).emb (Shape.reshapeEquiv squeezes_S1x1x400_S400.numel_eq y) = _
  rw [squeeze_ix]
  have hy : (y 0).val < 400 := (y 0).isLt
  funext a
  apply Fin.ext
  match a with
  | 0 =>
    show n / 16 + 1 * 0 = (n * 400 + (y 0).val) / 6400 % 32
    omega
  | 1 =>
    show n % 16 + 1 * 0 = (n * 400 + (y 0).val) / 400 % 16
    omega
  | 2 =>
    show 0 + 1 * (y 0).val = (n * 400 + (y 0).val) % 400
    omega

/-- The gather's view of the table reads the table. -/
theorem read_tabAll (x : FVec F S100000x128 .f32) : tabAll.view.read (Elt F) x = x := by
  funext y
  rw [View.read_apply, cast_eq]
  refine congrArg x ?_
  show (Rect.unit (s := S100000x128) ![0, 0] S100000x128.size inb_S100000x128_S100000x128_0_0).emb y = y
  funext a
  apply Fin.ext
  match a with
  | 0 => show 0 + 1 * (y 0).val = (y 0).val; omega
  | 1 => show 0 + 1 * (y 1).val = (y 1).val; omega

/-- A list of tokens is in the table's range when every token is. -/
theorem chunkIx_lt (t : IVec S32x16x400 32) (ht : InTable t) (n : ℕ) (y : S400.Idx) : (chunkIx (F := F) t n y).toNat < 100000 := ht _

/-- The list's one coordinate at a row-major position is the position. -/
theorem list_symm (k : Fin S400.numel) : ((S400.rowMajor.symm k) 0).val = k.val := by
  have := Shape.rowMajor_val_one (d := ![400]) (S400.rowMajor.symm k)
  rw [← this]
  exact congrArg Fin.val (S400.rowMajor.apply_symm_apply k)

/-- The gather over chunk `n`'s tokens brings chunk `n`'s rows. -/
theorem payload_eq (t : IVec S32x16x400 32) (ht : InTable t) (x : FVec F S100000x128 .f32) (n : ℕ)
    (hn : S400.numel = S400x128.size gathers_S100000x128_S400x128.axis')
    (hin : ∀ y, (chunkIx (F := F) t n y).toNat < S100000x128.size gathers_S100000x128_S400x128.axis) :
    SparseCore.gatherPayload (F := F) (e := .f32) gathers_S100000x128_S400x128 x (SparseCore.rows (chunkIx (F := F) t n) hn hin) = chunkRows (F := F) t ht x n := by
  funext y
  unfold SparseCore.gatherPayload chunkRows
  refine congrArg x ?_
  funext a
  apply Fin.ext
  match a with
  | 0 =>
    refine (congrArg Fin.val (Shape.Gathers.idx_axis gathers_S100000x128_S400x128 (SparseCore.rows (chunkIx (F := F) t n) hn hin) y)).trans ?_
    show (tokOf t (n * 400 + ((S400.rowMajor.symm ((y 0).cast hn.symm)) 0).val)).toNat = (tokOf t (n * 400 + (y 0).val)).toNat
    rw [list_symm]; rfl
  | 1 =>
    exact Shape.Gathers.idx_of_ne gathers_S100000x128_S400x128 _ y 1 (by decide)

/-- The rows of the output a write to chunk `n` touches are the chunk's. -/
theorem set_outAt {n : ℕ} (hn : n < 512) (h : ∀ a, outOff n a + S400x128.size a ≤ S204800x128.size a) :
    (outAt (outOff n) h).view.set = outSet n := by
  show ((View.whole (main_v1_scv : Ref sig .scVector)).slice (Rect.unit (s := S204800x128) (outOff n) S400x128.size h)).set = _
  rw [View.set_slice_whole]
  ext p
  rw [Rect.mem_set_unit]
  unfold outSet
  simp only [Finset.mem_filter, Finset.mem_univ, true_and]
  have h1 : (p 1).val < 128 := (p 1).isLt
  constructor
  · intro hp
    have := hp 0
    have e : n * 400 ≤ (p 0).val ∧ (p 0).val < n * 400 + 400 := this
    omega
  · intro hp a
    match a with
    | 0 => show n * 400 ≤ (p 0).val ∧ (p 0).val < n * 400 + 400; omega
    | 1 => show 0 ≤ (p 1).val ∧ (p 1).val < 0 + 128; omega

/-- Chunk `n`'s rows written out are the lookup there. -/
theorem write_outAt (t : IVec S32x16x400 32) (ht : InTable t) (x : FVec F S100000x128 .f32) {n : ℕ} (hn : n < 512)
    (h : ∀ a, outOff n a + S400x128.size a ≤ S204800x128.size a) (f : FVec F S204800x128 .f32) :
    ∀ p ∈ (outAt (outOff n) h).view.set, (outAt (outOff n) h).view.write (Elt F) f (chunkRows (F := F) t ht x n) Finset.univ p = look t ht x p := by
  intro p hp
  obtain ⟨y, -, rfl⟩ := Finset.mem_map.mp hp
  rw [View.write_emb_of_mem _ _ (Finset.mem_univ y), cast_eq]
  unfold chunkRows look
  have e0 : ((outAt (outOff n) h).view.emb y 0).val = n * 400 + (y 0).val := by
    show n * 400 + 1 * (y 0).val = _; omega
  have e1 : ((outAt (outOff n) h).view.emb y 1).val = (y 1).val := by
    show 0 + 1 * (y 1).val = _; omega
  refine congrArg x ?_
  funext a
  apply Fin.ext
  match a with
  | 0 => exact congrArg (fun r => (tokOf t r).toNat) e0.symm
  | 1 => exact e1.symm

end Cert.Proof.EmbIdeal

end
-- ==== Proof.StepsIdeal.lean ====
/-
  The task's six operations on a chunk, each as one step: starting the load of its tokens, starting the gather of its rows,
  starting the write of its rows, and the waits for the three. A step says what the task hands in and what it holds after.
-/
module

public import proofs.«01_k».proof.Proof.ChunksIdeal

@[expose] public section

noncomputable section

namespace Cert.Proof.EmbIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

section

variable (d : Dev nD) (L : grid0.Coords)

/-- A buffer of the task's whole window `b`, holding `v`. -/
def Holds {s : Shape} {e : EltTy} (b : Memref sig .scVector .vmem s e) (v : s.Idx → Elt F e) : sProp 𝕄 :=
  iprop(∃ f, ⌜b.view.read (Elt F) f = v⌝ ∗ b.view.loc (V d (cV L) (jV L)) ↦[b.view.set]{fullShare} f)
/-- It, at any contents. -/
def Owns {s : Shape} {e : EltTy} (b : Memref sig .scVector .vmem s e) : sProp 𝕄 :=
  iprop(∃ f, b.view.loc (V d (cV L) (jV L)) ↦[b.view.set]{fullShare} f)

theorem owns_of_holds {s : Shape} {e : EltTy} {b : Memref sig .scVector .vmem s e} {v : s.Idx → Elt F e} :
    (Holds (F := F) d L b v : sProp 𝕄) ⊢ Owns (F := F) d L b := by
  unfold Holds Owns
  iintro ⟨%f, -, H⟩
  iexists f; iexact H

/-- The task's semaphore at zero. -/
abbrev Zero (sem : DmaSem sig) : sProp 𝕄 := semVal (V d (cV L) (jV L), .dma sem) 0
/-- A share of the tokens, of the table; chunk `n` of the output. -/
abbrev TokSh (t : IVec S32x16x400 32) (q : PosShare TreeShare) : sProp 𝕄 := tokLoc d ↦{q} (t : Buf (Elt F) (tokLoc d))
abbrev TabSh (x : FVec F S100000x128 .f32) (q : PosShare TreeShare) : sProp 𝕄 := tabLoc d ↦{q} (x : Buf (Elt F) (tabLoc d))
abbrev OutCh (n : ℕ) (f : FVec F S204800x128 .f32) : sProp 𝕄 := outLoc d ↦[outSet n]{fullShare} (f : Buf (Elt F) (outLoc d))

/-- In flight: the load of chunk `n`'s tokens into `b`. -/
def Loading (t : IVec S32x16x400 32) (b : Memref sig .scVector .vmem S400 .i32) (sem : DmaSem sig) (n : ℕ) (q : PosShare TreeShare) : sProp 𝕄 :=
  iprop(Transfers.Flight countersEmb (V d (cV L) (jV L)) (.dma sem) (default : HIx 1) b.view.dmaCredit
    iprop(Holds (F := F) d L b (chunkIx (F := F) t n) ∗ TokSh (F := F) d t q))
/-- In flight: the gather of chunk `n`'s rows into `b` over the list in `ix`. -/
def Gathering (t : IVec S32x16x400 32) (ht : InTable t) (x : FVec F S100000x128 .f32) (b : Memref sig .scVector .vmem S400x128 .f32)
    (ix : Memref sig .scVector .vmem S400 .i32) (sem : DmaSem sig) (n : ℕ) (q : PosShare TreeShare) : sProp 𝕄 :=
  iprop(Transfers.Flight countersEmb (V d (cV L) (jV L)) (.dma sem) (default : HIx 1) b.view.dmaCredit
    iprop(Holds (F := F) d L b (chunkRows (F := F) t ht x n) ∗ Owns (F := F) d L ix ∗ TabSh (F := F) d x q))
/-- In flight: the write of chunk `n`'s rows from `b` to the output. -/
def Writing (t : IVec S32x16x400 32) (ht : InTable t) (x : FVec F S100000x128 .f32) (b : Memref sig .scVector .vmem S400x128 .f32)
    (sem : DmaSem sig) (n : ℕ) : sProp 𝕄 :=
  iprop(Transfers.Flight countersEmb (V d (cV L) (jV L)) (.dma sem) (default : HIx 1) (outAt ![0, 0] inb_S204800x128_S400x128_0_0).view.dmaCredit
    iprop(OutCh (F := F) d n (look t ht x) ∗ Owns (F := F) d L b))

/-- What the task owes, its waits so far all its own or among `W`. -/
def Owed (O : CellTallies nD τ sig (HIx 1)) (W : Waits sig (HIx 1)) : sProp 𝕄 :=
  iprop(∃ W', ⌜∀ p ∈ W', p ∈ W ∨ p.2 = none⌝ ∗ owes (V d (cV L) (jV L)) O W')

variable [FloatOps F]

/-- A share of an array held whole lends any part of it, to be put back. -/
theorem lend {ℓ : Loc nD τ sig} {q : PosShare TreeShare} (f : Buf (Elt F) ℓ) (S : Finset (Idx ℓ)) :
    (ℓ ↦{q} f : sProp 𝕄) ⊢ iprop((ℓ ↦[S]{q} f) ∗ ((ℓ ↦[S]{q} f) -∗ ℓ ↦{q} f)) := by
  iintro H
  ihave H := (pointsTo_split_subset (q := q) (f := f) (S := Finset.univ) (Finset.subset_univ S)).1 $$ H
  icases H with ⟨H, Hr⟩
  isplitl [H]; · iexact H
  iintro H
  iapply (pointsTo_split_subset (q := q) (f := f) (S := Finset.univ) (Finset.subset_univ S)).2
  isplitl [H] <;> iassumption

/-- A flight delivers, besides, what the task keeps aside for it. -/
theorem flight_frame {sm : SemLoc sig} {N : ℕ} {A R : sProp 𝕄} {c : Thread nD τ} :
    iprop(Transfers.Flight countersEmb c sm (default : HIx 1) N A ∗ R) ⊢ Transfers.Flight countersEmb c sm (default : HIx 1) N iprop(A ∗ R) := by
  unfold Transfers.Flight
  iintro ⟨⟨⟨%R₀, HR, %hcap, %hpeek⟩, Hcred⟩, Hk⟩
  isplitl [HR Hk]
  · iexists iprop(R₀ ∗ R)
    isplitl [HR Hk]
    · isplitl [HR] <;> iassumption
    isplit
    · ipureintro
      intro Q
      iintro ⟨⟨HR, Hk⟩, HQ⟩
      iapply (hcap Q)
      isplitl [HR]; · iexact HR
      iintro ⟨Hv, HA⟩
      iapply HQ
      isplitl [Hv]; · iexact Hv
      isplitl [HA] <;> iassumption
    · ipureintro
      intro Q
      iintro ⟨⟨HR, Hk⟩, HQ⟩
      iapply (hpeek Q)
      isplitl [HR]; · iexact HR
      iintro HR
      iapply HQ
      isplitl [HR] <;> iassumption
  · iexact Hcred

/-- A wait for a flight: its delivery, the semaphore at zero, the wait recorded. -/
theorem wait_step {sp sp' : Space} {s s' : Shape} {e e' : EltTy} {κ : Kind} {sem : DmaSem sig} {N : ℕ} {A : sProp 𝕄}
    {O : CellTallies nD τ sig (HIx 1)} {W : Waits sig (HIx 1)}
    {src : Memref sig .scVector sp' s' e'} {dst : Memref sig κ sp s e} {hs : src.view.WordExact} {hd : dst.view.WordExact}
    (hN : dst.view.dmaCredit = N) (Φ : PUnit → sProp 𝕄) :
    iprop(Transfers.MayWaits (V d (cV L) (jV L)) (default : HIx 1) O
        ∗ Transfers.Flight countersEmb (V d (cV L) (jV L)) (.dma sem) (default : HIx 1) N A ∗ Owed (F := F) d L O W)
      ⊢ iprop((iprop(A ∗ Zero (F := F) d L sem ∗ Owed (F := F) d L O W) -∗ Φ ⟨⟩)
        -∗ wp frame (wpE (defs₀ (F := F)) 𝒱₀ (V d (cV L) (jV L)) none) Set.univ (Prog.lift (.waitDma2 sem src dst hs hd)) Φ) := by
  unfold Owed
  iintro ⟨#Hmw, Hfl, %W', %hW', HO⟩ Hk
  unfold Prog.lift
  iapply (Transfers.wp_waitLocalO countersEmb 𝒱₀ (V d (cV L) (jV L)) none (default : HIx 1) hN) $$ [Hfl HO]
  · isplitl [Hfl]; · iexact Hfl
    isplitl [HO]; · iexact HO
    iapply (Transfers.MayWaits.elim (SemLoc.dma sem)) $$ Hmw
  iintro ⟨HA, Hz, HO⟩
  rw [wp_ret]; imodintro
  iapply Hk
  isplitl [HA]; · iexact HA
  isplitl [Hz]; · iexact Hz
  iexists _; isplitr
  swap; · iexact HO
  ipureintro; intro p hp
  rcases Finset.mem_insert.mp hp with hp | hp
  · exact .inr (hp ▸ rfl)
  · exact hW' p hp

/-- Starting the load of chunk `n`'s tokens into `b`. -/
theorem load_step (t : IVec S32x16x400 32) {n : ℕ} (hn : n < 512) {o : Fin 3 → ℕ} (ho : o = tokOff n)
    {h : ∀ a, o a + S1x1x400.size a ≤ S32x16x400.size a} {b : Memref sig .scVector .vmem S400 .i32} {sem : DmaSem sig} {q : PosShare TreeShare}
    {hs : (tokAt o h).view.WordExact} {hd : b.view.WordExact} {ht : DmaTarget.Typed (nD := nD) .hbm (.dma sem) (.here b : DmaTarget nD τ sig (.scVector (cV L) (jV L)) .vmem S400 .i32)}
    (Φ : PUnit → sProp 𝕄) :
    iprop(TokSh (F := F) d t q ∗ Owns (F := F) d L b ∗ Zero (F := F) d L sem)
      ⊢ iprop((Loading (F := F) d L t b sem n q -∗ Φ ⟨⟩)
        -∗ wp frame (wpE (defs₀ (F := F)) 𝒱₀ (V d (cV L) (jV L)) none) Set.univ
            (Prog.lift (.enqueueDma (tokAt o h) (.here b) (.dma sem) hs hd ht)) Φ) := by
  subst ho
  unfold Owns
  iintro ⟨Ht, ⟨%f, Hb⟩, Hz⟩ Hk
  unfold Prog.lift
  ihave Hl := (lend (F := F) (ℓ := tokLoc d) (q := q) t (tokAt (tokOff n) h).view.set) $$ Ht
  icases Hl with ⟨Ht, Hback⟩
  iapply (Transfers.wp_dmaLocal countersEmb 𝒱₀ (V d (cV L) (jV L)) none (src := tokAt (tokOff n) h) (via := .same) (dst := b) (sm := .dma sem)
    (q := q) (fs := t) (Sd := b.view.set) (fd := f) (default : HIx 1) b.view.dmaCredit rfl (View.dmaCredit_pos _ (by decide)) (Finset.Subset.refl _)) $$ [Ht Hb Hz]
  · isplitl [Ht]; · iexact Ht
    isplitl [Hb]; · iexact Hb
    iexact Hz
  iintro Hfl
  rw [wp_ret]; imodintro
  iapply Hk
  ihave Hfl := (flight_frame (F := F)) $$ [Hfl Hback]
  · isplitl [Hfl]; · iexact Hfl
    iexact Hback
  unfold Loading
  iapply (Transfers.Flight_mono (EC := countersEmb) ?_) $$ Hfl
  iintro ⟨⟨Hb, Ht⟩, Hback⟩
  isplitl [Hb]
  · unfold Holds
    iexists _
    isplitr
    swap; · iexact Hb
    ipureintro
    rw [View.read_write_univ]
    exact read_tokAt t hn h
  · iapply Hback; iexact Ht

/-- Starting the gather of chunk `n`'s rows into `b`, over its tokens in `ix`. -/
theorem gather_step (t : IVec S32x16x400 32) (ht : InTable t) (x : FVec F S100000x128 .f32) {n : ℕ} {b : Memref sig .scVector .vmem S400x128 .f32} {ix : Memref sig .scVector .vmem S400 .i32}
    {sem : DmaSem sig} {q : PosShare TreeShare}
    {hp : (V d (cV L) (jV L)).2.kind = .scVector} {hl : S400.numel = S400x128.size gathers_S100000x128_S400x128.axis'}
    {hs : tabAll.view.WordExact} {he : (EltTy.f32).bits = 32} {hsp : Space.hbm = .hbm ∨ Space.hbm = .shared} {hr : S100000x128.StreamRows 0}
    (hN : ∑ j, (b.slice (S400x128.rowRect gathers_S100000x128_S400x128.axis' j) (S400x128.stride_rowRect gathers_S100000x128_S400x128.axis' j)).view.dmaCredit = b.view.dmaCredit)
    (Φ : PUnit → sProp 𝕄) :
    iprop(TabSh (F := F) d x q ∗ Owns (F := F) d L b ∗ Holds (F := F) d L ix (chunkIx (F := F) t n) ∗ Zero (F := F) d L sem)
      ⊢ iprop((Gathering (F := F) d L t ht x b ix sem n q -∗ Φ ⟨⟩)
        -∗ wp frame (wpE (defs₀ (F := F)) 𝒱₀ (V d (cV L) (jV L)) none) Set.univ
            (SparseCore.enqueueIndirectGather hp tabAll b gathers_S100000x128_S400x128 ix hl sem hs he hsp hr) Φ) := by
  unfold Owns Holds
  iintro ⟨Hx, ⟨%f, Hb⟩, ⟨%g, %hg, Hi⟩, Hz⟩ Hk
  ihave Hl := (lend (F := F) (ℓ := tabLoc d) (q := q) x tabAll.view.set) $$ Hx
  icases Hl with ⟨Hx, Hback⟩
  rw [show (SparseCore.enqueueIndirectGather hp tabAll b gathers_S100000x128_S400x128 ix hl sem hs he hsp hr
      : Prog (TpuEff nD τ sig (Elt F) Λ₀ (V d (cV L) (jV L)).2) PUnit)
    = SparseCore.enqueueIndirectGather hp tabAll b gathers_S100000x128_S400x128 ix hl sem hs he hsp hr >>= Prog.ret from rfl]
  iapply (SparseCore.wp_indirectGatherLocal countersEmb 𝒱₀ (V d (cV L) (jV L)) none (src := tabAll) (dst := b) (offs := ix) (hg := gathers_S100000x128_S400x128) (q := q)
      (fs := x) (fd := f) (fo := g) (default : HIx 1)
      b.view.dmaCredit hN (by decide) (by rw [hg]; exact chunkIx_lt t ht n)) $$ [Hx Hb Hi Hz]
  · isplitl [Hx]; · iexact Hx
    isplitl [Hb]; · iexact Hb
    isplitl [Hi]; · iexact Hi
    iexact Hz
  iintro Hfl
  rw [wp_ret]; imodintro
  iapply Hk
  ihave Hfl := (flight_frame (F := F)) $$ [Hfl Hback]
  · isplitl [Hfl]; · iexact Hfl
    iexact Hback
  unfold Gathering
  iapply (Transfers.Flight_mono (EC := countersEmb) ?_) $$ Hfl
  iintro ⟨⟨Hb, Hx, Hi⟩, Hback⟩
  isplitl [Hb]
  · unfold Holds
    iexists _
    isplitr
    swap; · iexact Hb
    ipureintro
    rw [View.read_write_univ]
    have key : ∀ (v : S400.Idx → Elt F .i32) (_ : v = chunkIx (F := F) t n)
        (hin : ∀ y, (v y).toNat < S100000x128.size gathers_S100000x128_S400x128.axis),
        SparseCore.gatherPayload (F := F) (e := .f32) gathers_S100000x128_S400x128 x (SparseCore.rows v hl hin) = chunkRows (F := F) t ht x n := by
      intro v e hin
      subst e
      exact payload_eq t ht x n hl hin
    rw [read_tabAll]
    exact key _ hg _
  isplitl [Hi]
  · unfold Owns
    iexists _; iexact Hi
  · iapply Hback; iexact Hx

/-- Starting the write of chunk `n`'s rows from `b`. -/
theorem write_step (t : IVec S32x16x400 32) (ht : InTable t) (x : FVec F S100000x128 .f32) {n : ℕ} (hn : n < 512) {o : Fin 2 → ℕ} (ho : o = outOff n)
    {h : ∀ a, o a + S400x128.size a ≤ S204800x128.size a} {b : Memref sig .scVector .vmem S400x128 .f32} {sem : DmaSem sig} {f : FVec F S204800x128 .f32}
    {hs : b.view.WordExact} {hd : (outAt o h).view.WordExact} {hty : DmaTarget.Typed (nD := nD) .vmem (.dma sem) (.here (outAt o h) : DmaTarget nD τ sig (.scVector (cV L) (jV L)) .hbm S400x128 .f32)}
    (Φ : PUnit → sProp 𝕄) :
    iprop(Holds (F := F) d L b (chunkRows (F := F) t ht x n) ∗ OutCh (F := F) d n f ∗ Zero (F := F) d L sem)
      ⊢ iprop((Writing (F := F) d L t ht x b sem n -∗ Φ ⟨⟩)
        -∗ wp frame (wpE (defs₀ (F := F)) 𝒱₀ (V d (cV L) (jV L)) none) Set.univ
            (Prog.lift (.enqueueDma b (.here (outAt o h)) (.dma sem) hs hd hty)) Φ) := by
  subst ho
  unfold Holds
  iintro ⟨⟨%g, %hg, Hb⟩, Ho, Hz⟩ Hk
  unfold Prog.lift
  ihave Ho := (Entails.of_eq (show (OutCh (F := F) d n f : sProp 𝕄)
    = ((outAt (outOff n) h).view.loc (V d (cV L) (jV L)) ↦[(outAt (outOff n) h).view.set]{fullShare} f) by rw [set_outAt hn h])) $$ Ho
  iapply (Transfers.wp_dmaLocal countersEmb 𝒱₀ (V d (cV L) (jV L)) none (src := b) (via := .same) (dst := outAt (outOff n) h) (sm := .dma sem)
    (q := fullShare) (fs := g) (Sd := (outAt (outOff n) h).view.set) (fd := f) (default : HIx 1) (outAt ![0, 0] inb_S204800x128_S400x128_0_0).view.dmaCredit rfl
    (View.dmaCredit_pos _ (by decide)) (Finset.Subset.refl _)) $$ [Ho Hb Hz]
  · isplitl [Hb]; · iexact Hb
    isplitl [Ho]; · iexact Ho
    iexact Hz
  iintro Hfl
  rw [wp_ret]; imodintro
  iapply Hk
  unfold Writing
  iapply (Transfers.Flight_mono (EC := countersEmb) ?_) $$ Hfl
  iintro ⟨Ho, Hb⟩
  isplitl [Ho]
  · iapply (Entails.of_eq ?_) $$ Ho
    rw [show ReadAs.same.apply (b.view.read (Elt F) g) = chunkRows (F := F) t ht x n from hg,
      pointsTo_congr (write_outAt t ht x hn h f), set_outAt hn h]
  · unfold Owns
    iexists _; iexact Hb

/-- The wait for a load: the tokens are in `b`, the share of them back. -/
theorem load_wait (t : IVec S32x16x400 32) {n : ℕ} {b : Memref sig .scVector .vmem S400 .i32} {sem : DmaSem sig} {q : PosShare TreeShare}
    {O : CellTallies nD τ sig (HIx 1)} {W : Waits sig (HIx 1)} {sp' : Space} {s' : Shape} {e' : EltTy}
    {src : Memref sig .scVector sp' s' e'} {hs : src.view.WordExact} {hd : b.view.WordExact} (Φ : PUnit → sProp 𝕄) :
    iprop(Transfers.MayWaits (V d (cV L) (jV L)) (default : HIx 1) O ∗ Loading (F := F) d L t b sem n q ∗ Owed (F := F) d L O W)
      ⊢ iprop((iprop((Holds (F := F) d L b (chunkIx (F := F) t n) ∗ TokSh (F := F) d t q) ∗ Zero (F := F) d L sem ∗ Owed (F := F) d L O W) -∗ Φ ⟨⟩)
        -∗ wp frame (wpE (defs₀ (F := F)) 𝒱₀ (V d (cV L) (jV L)) none) Set.univ (Prog.lift (.waitDma2 sem src b hs hd)) Φ) := by
  unfold Loading
  exact wait_step (F := F) d L rfl Φ

/-- The wait for a gather: the rows are in `b`, the list's buffer and the share of the table back. -/
theorem gather_wait (t : IVec S32x16x400 32) (ht : InTable t) (x : FVec F S100000x128 .f32) {n : ℕ} {b : Memref sig .scVector .vmem S400x128 .f32} {ix : Memref sig .scVector .vmem S400 .i32}
    {sem : DmaSem sig} {q : PosShare TreeShare}
    {O : CellTallies nD τ sig (HIx 1)} {W : Waits sig (HIx 1)} {sp' : Space} {s' : Shape} {e' : EltTy}
    {src : Memref sig .scVector sp' s' e'} {hs : src.view.WordExact} {hd : b.view.WordExact} (Φ : PUnit → sProp 𝕄) :
    iprop(Transfers.MayWaits (V d (cV L) (jV L)) (default : HIx 1) O ∗ Gathering (F := F) d L t ht x b ix sem n q ∗ Owed (F := F) d L O W)
      ⊢ iprop((iprop((Holds (F := F) d L b (chunkRows (F := F) t ht x n) ∗ Owns (F := F) d L ix ∗ TabSh (F := F) d x q)
            ∗ Zero (F := F) d L sem ∗ Owed (F := F) d L O W) -∗ Φ ⟨⟩)
        -∗ wp frame (wpE (defs₀ (F := F)) 𝒱₀ (V d (cV L) (jV L)) none) Set.univ (SparseCore.waitIndirectGather sem src b hs hd) Φ) := by
  unfold Gathering
  exact wait_step (F := F) d L rfl Φ

/-- The wait for a write: the chunk of the output is the lookup, the row buffer back. -/
theorem write_wait (t : IVec S32x16x400 32) (ht : InTable t) (x : FVec F S100000x128 .f32) {n : ℕ} {b : Memref sig .scVector .vmem S400x128 .f32} {sem : DmaSem sig}
    {O : CellTallies nD τ sig (HIx 1)} {W : Waits sig (HIx 1)} {sp' : Space} {s' : Shape} {e' : EltTy}
    {src : Memref sig .scVector sp' s' e'} {hs : src.view.WordExact} {hd : (outAt ![0, 0] inb_S204800x128_S400x128_0_0).view.WordExact} (Φ : PUnit → sProp 𝕄) :
    iprop(Transfers.MayWaits (V d (cV L) (jV L)) (default : HIx 1) O ∗ Writing (F := F) d L t ht x b sem n ∗ Owed (F := F) d L O W)
      ⊢ iprop((iprop((OutCh (F := F) d n (look t ht x) ∗ Owns (F := F) d L b) ∗ Zero (F := F) d L sem ∗ Owed (F := F) d L O W) -∗ Φ ⟨⟩)
        -∗ wp frame (wpE (defs₀ (F := F)) 𝒱₀ (V d (cV L) (jV L)) none) Set.univ
            (Prog.lift (.waitDma2 sem src (outAt ![0, 0] inb_S204800x128_S400x128_0_0) hs hd)) Φ) := by
  unfold Writing
  exact wait_step (F := F) d L rfl Φ

omit [FloatOps F] in
/-- The rows of a row buffer credit what the buffer does. -/
theorem credit_rw0 : ∑ j, ((rw0).slice (S400x128.rowRect gathers_S100000x128_S400x128.axis' j) (S400x128.stride_rowRect gathers_S100000x128_S400x128.axis' j)).view.dmaCredit
    = (rw0).view.dmaCredit := SparseCore.sum_rowCredit_eq_dmaCredit rw0 _ fun _ => rfl
omit [FloatOps F] in
theorem credit_rw1 : ∑ j, ((rw1).slice (S400x128.rowRect gathers_S100000x128_S400x128.axis' j) (S400x128.stride_rowRect gathers_S100000x128_S400x128.axis' j)).view.dmaCredit
    = (rw1).view.dmaCredit := SparseCore.sum_rowCredit_eq_dmaCredit rw1 _ fun _ => rfl

omit [FloatOps F] in
/-- A scratch buffer held whole is its window held. -/
theorem owns_ix0 : (Owns (F := F) d L ix0 : sProp 𝕄) = iprop(∃ f, (V d (cV L) (jV L)).loc cc0_scratch0 ↦{fullShare} f) := by
  unfold Owns; rw [show (ix0).view.set = Finset.univ from View.set_whole _]
omit [FloatOps F] in
theorem owns_ix1 : (Owns (F := F) d L ix1 : sProp 𝕄) = iprop(∃ f, (V d (cV L) (jV L)).loc cc0_scratch1 ↦{fullShare} f) := by
  unfold Owns; rw [show (ix1).view.set = Finset.univ from View.set_whole _]
omit [FloatOps F] in
theorem owns_rw0 : (Owns (F := F) d L rw0 : sProp 𝕄) = iprop(∃ f, (V d (cV L) (jV L)).loc cc0_scratch2 ↦{fullShare} f) := by
  unfold Owns; rw [show (rw0).view.set = Finset.univ from View.set_whole _]
omit [FloatOps F] in
theorem owns_rw1 : (Owns (F := F) d L rw1 : sProp 𝕄) = iprop(∃ f, (V d (cV L) (jV L)).loc cc0_scratch3 ↦{fullShare} f) := by
  unfold Owns; rw [show (rw1).view.set = Finset.univ from View.set_whole _]

end

end Cert.Proof.EmbIdeal

end
-- ==== Proof.TaskIdeal.lean ====
/-
  The task of one vector subcore. Its sixteen chunks go through two pairs of buffers, even chunks through the first and odd
  ones through the second. The body is printed in one piece, every chunk written out; here it is cut into CHUNK STEPS: the
  two first chunks, whose row buffers no write has used yet; twelve middle chunks, taken in pairs; and the two last, after
  which no tokens are left to load. Each kind of step is proved once, at any pair of buffers and any chunk. Between two
  pairs the loads of the next two chunks' tokens and the writes of the last two chunks' rows are in flight.
-/
module

public import proofs.«01_k».proof.Proof.StepsIdeal

@[expose] public section

noncomputable section

namespace Cert.Proof.EmbIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- The first `j` of the task's chunks hold `f`; the chunks from `j` on do. -/
def Done (f : FVec F S204800x128 .f32) (j : ℕ) : sProp 𝕄 := bigSep (Finset.range j) fun c => OutCh (F := F) d (base L + c) f
def Todo (f : FVec F S204800x128 .f32) (j : ℕ) : sProp 𝕄 := bigSep (Finset.Ico j 16) fun c => OutCh (F := F) d (base L + c) f

/-- One chunk more is done. -/
theorem done_succ (f : FVec F S204800x128 .f32) (j : ℕ) : (iprop(Done (F := F) d L f j ∗ OutCh (F := F) d (base L + j) f) : sProp 𝕄) ⊢ Done (F := F) d L f (j + 1) := by
  unfold Done
  rw [Finset.range_add_one, SparseCore.bigSep_insert' (by simp)]
  iintro ⟨H1, H2⟩
  isplitl [H2] <;> iassumption
/-- The next chunk is taken. -/
theorem todo_take (f : FVec F S204800x128 .f32) {j : ℕ} (hj : j < 16) : (Todo (F := F) d L f j : sProp 𝕄) ⊢ iprop(OutCh (F := F) d (base L + j) f ∗ Todo (F := F) d L f (j + 1)) := by
  unfold Todo
  have e : Finset.Ico j 16 = insert j (Finset.Ico (j + 1) 16) := by
    ext a; simp only [Finset.mem_Ico, Finset.mem_insert]; omega
  rw [e, SparseCore.bigSep_insert' (by simp)]
/-- All chunks are done, all to do. -/
theorem done_all (f : FVec F S204800x128 .f32) : (Done (F := F) d L f 16 : sProp 𝕄) = bigSep (Finset.range 16) fun c => OutCh (F := F) d (base L + c) f := rfl
theorem todo_all (f : FVec F S204800x128 .f32) : (Todo (F := F) d L f 0 : sProp 𝕄) = bigSep (Finset.range 16) fun c => OutCh (F := F) d (base L + c) f := by
  unfold Todo; rw [Finset.range_eq_Ico]

theorem done_zero (f : FVec F S204800x128 .f32) : (Done (F := F) d L f 0 : sProp 𝕄) = iprop(emp) := by
  unfold Done; rw [Finset.range_zero, bigSep_empty]; rfl

variable [FloatOps F]

/-! ## The chunk steps, as programs -/

section Programs

variable (ix : Memref sig .scVector .vmem S400 .i32) (hix : ix.IsWhole) (rw : Memref sig .scVector .vmem S400x128 .f32) (hrw : rw.IsWhole)
variable (isem gsem osem : DmaSem sig)
variable (o : Fin 3 → ℕ) (h : ∀ a, o a + S1x1x400.size a ≤ S32x16x400.size a)
variable (o' : Fin 3 → ℕ) (h' : ∀ a, o' a + S1x1x400.size a ≤ S32x16x400.size a)
variable (w : Fin 2 → ℕ) (hw : ∀ a, w a + S400x128.size a ≤ S204800x128.size a)

/-- What a task of coordinates `L` runs. -/
abbrev TaskProg := Prog (TpuEff nD τ sig (Elt F) Λ₀ (.scVector ((L 0).castLE hcore0) ((L 1).castLE hsub0))) PUnit.{1}

/-- Starting the load of the tokens at `o`. -/
def loadP : TaskProg (F := F) L :=
  Prog.lift (.enqueueDma (tokAt o h) (.here ix) (.dma isem) ((View.wordExact_bits rfl).reshape _ _) hix.wordExact ⟨Or.inl rfl, trivial⟩)
/-- Waiting for it. -/
def loadW : TaskProg (F := F) L :=
  Prog.lift (.waitDma2 isem (tokAt o h) ix ((View.wordExact_bits rfl).reshape _ _) hix.wordExact)
/-- Starting the write of the rows to `w`. -/
def writeP : TaskProg (F := F) L :=
  Prog.lift (.enqueueDma rw (.here (outAt w hw)) (.dma osem) hrw.wordExact (View.wordExact_bits rfl) ⟨Or.inl rfl, trivial⟩)
/-- Waiting for one. -/
def writeW : TaskProg (F := F) L :=
  Prog.lift (.waitDma2 osem rw (outAt ![0, 0] inb_S204800x128_S400x128_0_0) hrw.wordExact (View.wordExact_bits rfl))
/-- The gather of the rows, and the wait for it. -/
def gatherP : TaskProg (F := F) L := do
  SparseCore.enqueueIndirectGather rfl tabAll rw gathers_S100000x128_S400x128 ix rfl gsem (View.wordExact_bits rfl) rfl (Or.inl rfl)
  SparseCore.waitIndirectGather gsem tabAll rw (View.wordExact_bits rfl) hrw.wordExact

/-- A first chunk, a middle one, a last one: tokens at `o`, rows to `w`, the next tokens through these buffers at `o'`. -/
def firstP : TaskProg (F := F) L := do
  loadW L ix hix isem o h
  gatherP L ix rw hrw gsem
  loadP L ix hix isem o' h'
  writeP L rw hrw osem w hw
def midP : TaskProg (F := F) L := do
  loadW L ix hix isem o h
  writeW L rw hrw osem
  gatherP L ix rw hrw gsem
  loadP L ix hix isem o' h'
  writeP L rw hrw osem w hw
def lastP : TaskProg (F := F) L := do
  loadW L ix hix isem o h
  writeW L rw hrw osem
  gatherP L ix rw hrw gsem
  writeP L rw hrw osem w hw

end Programs

/-- A middle step at the even chunks' buffers, and at the odd ones'. -/
abbrev evenP (o : Fin 3 → ℕ) (h : ∀ a, o a + S1x1x400.size a ≤ S32x16x400.size a) (o' : Fin 3 → ℕ) (h' : ∀ a, o' a + S1x1x400.size a ≤ S32x16x400.size a)
    (w : Fin 2 → ℕ) (hw : ∀ a, w a + S400x128.size a ≤ S204800x128.size a) : TaskProg (F := F) L :=
  midP L ix0 (Memref.isWhole_whole _) rw0 (Memref.isWhole_whole _) cc0_scratch4.sem cc0_scratch6.sem cc0_scratch8.sem o h o' h' w hw
abbrev oddP (o : Fin 3 → ℕ) (h : ∀ a, o a + S1x1x400.size a ≤ S32x16x400.size a) (o' : Fin 3 → ℕ) (h' : ∀ a, o' a + S1x1x400.size a ≤ S32x16x400.size a)
    (w : Fin 2 → ℕ) (hw : ∀ a, w a + S400x128.size a ≤ S204800x128.size a) : TaskProg (F := F) L :=
  midP L ix1 (Memref.isWhole_whole _) rw1 (Memref.isWhole_whole _) cc0_scratch5.sem cc0_scratch7.sem cc0_scratch9.sem o h o' h' w hw

/-- Chunks `c` and `c + 1`, both middle ones, from the task's offsets. -/
def pairP (o₀ : Fin 3 → ℕ) (h₀ : ∀ a, o₀ a + S1x1x400.size a ≤ S32x16x400.size a) (o₁ : Fin 3 → ℕ) (h₁ : ∀ a, o₁ a + S1x1x400.size a ≤ S32x16x400.size a)
    (o₂ : Fin 3 → ℕ) (h₂ : ∀ a, o₂ a + S1x1x400.size a ≤ S32x16x400.size a) (o₃ : Fin 3 → ℕ) (h₃ : ∀ a, o₃ a + S1x1x400.size a ≤ S32x16x400.size a)
    (w₀ : Fin 2 → ℕ) (g₀ : ∀ a, w₀ a + S400x128.size a ≤ S204800x128.size a) (w₁ : Fin 2 → ℕ) (g₁ : ∀ a, w₁ a + S400x128.size a ≤ S204800x128.size a) :
    TaskProg (F := F) L := do
  evenP L o₀ h₀ o₂ h₂ w₀ g₀
  oddP L o₁ h₁ o₃ h₃ w₁ g₁

set_option maxRecDepth 65536 in
set_option maxHeartbeats 4000000 in
/-- The printed body is its chunk steps. -/
theorem body_eq :
    cc0__emb_body (F := F) L tokV (Memref.isWhole_whole _) tabV (Memref.isWhole_whole _) outV (Memref.isWhole_whole _)
      ix0 (Memref.isWhole_whole _) ix1 (Memref.isWhole_whole _) rw0 (Memref.isWhole_whole _) rw1 (Memref.isWhole_whole _)
      cc0_scratch4 cc0_scratch5 cc0_scratch6 cc0_scratch7 cc0_scratch8 cc0_scratch9
    = (do
      loadP L ix0 (Memref.isWhole_whole _) cc0_scratch4.sem (k0_off1 L) (k0_off1_inb L)
      loadP L ix1 (Memref.isWhole_whole _) cc0_scratch5.sem (k0_off2 L) (k0_off2_inb L)
      firstP L ix0 (Memref.isWhole_whole _) rw0 (Memref.isWhole_whole _) cc0_scratch4.sem cc0_scratch6.sem cc0_scratch8.sem
        (k0_off1 L) (k0_off1_inb L) (k0_off3 L) (k0_off3_inb L) (k0_off4 L 0#32) (k0_off4_inb L 0)
      firstP L ix1 (Memref.isWhole_whole _) rw1 (Memref.isWhole_whole _) cc0_scratch5.sem cc0_scratch7.sem cc0_scratch9.sem
        (k0_off2 L) (k0_off2_inb L) (k0_off5 L) (k0_off5_inb L) (k0_off4 L 400#32) (k0_off4_inb L 1)
      pairP L (k0_off3 L) (k0_off3_inb L) (k0_off5 L) (k0_off5_inb L) (k0_off6 L) (k0_off6_inb L) (k0_off7 L) (k0_off7_inb L)
        (k0_off4 L 800#32) (k0_off4_inb L 2) (k0_off4 L 1200#32) (k0_off4_inb L 3)
      pairP L (k0_off6 L) (k0_off6_inb L) (k0_off7 L) (k0_off7_inb L) (k0_off8 L) (k0_off8_inb L) (k0_off9 L) (k0_off9_inb L)
        (k0_off4 L 1600#32) (k0_off4_inb L 4) (k0_off4 L 2000#32) (k0_off4_inb L 5)
      pairP L (k0_off8 L) (k0_off8_inb L) (k0_off9 L) (k0_off9_inb L) (k0_off10 L) (k0_off10_inb L) (k0_off11 L) (k0_off11_inb L)
        (k0_off4 L 2400#32) (k0_off4_inb L 6) (k0_off4 L 2800#32) (k0_off4_inb L 7)
      pairP L (k0_off10 L) (k0_off10_inb L) (k0_off11 L) (k0_off11_inb L) (k0_off12 L) (k0_off12_inb L) (k0_off13 L) (k0_off13_inb L)
        (k0_off4 L 3200#32) (k0_off4_inb L 8) (k0_off4 L 3600#32) (k0_off4_inb L 9)
      pairP L (k0_off12 L) (k0_off12_inb L) (k0_off13 L) (k0_off13_inb L) (k0_off14 L) (k0_off14_inb L) (k0_off15 L) (k0_off15_inb L)
        (k0_off4 L 4000#32) (k0_off4_inb L 10) (k0_off4 L 4400#32) (k0_off4_inb L 11)
      pairP L (k0_off14 L) (k0_off14_inb L) (k0_off15 L) (k0_off15_inb L) (k0_off16 L) (k0_off16_inb L) (k0_off17 L) (k0_off17_inb L)
        (k0_off4 L 4800#32) (k0_off4_inb L 12) (k0_off4 L 5200#32) (k0_off4_inb L 13)
      lastP L ix0 (Memref.isWhole_whole _) rw0 (Memref.isWhole_whole _) cc0_scratch4.sem cc0_scratch6.sem cc0_scratch8.sem
        (k0_off16 L) (k0_off16_inb L) (k0_off4 L 5600#32) (k0_off4_inb L 14)
      lastP L ix1 (Memref.isWhole_whole _) rw1 (Memref.isWhole_whole _) cc0_scratch5.sem cc0_scratch7.sem cc0_scratch9.sem
        (k0_off17 L) (k0_off17_inb L) (k0_off4 L 6000#32) (k0_off4_inb L 15)
      writeW L rw0 (Memref.isWhole_whole _) cc0_scratch8.sem
      writeW L rw1 (Memref.isWhole_whole _) cc0_scratch9.sem) := by
  rw [cc0__emb_body_eq_skeleton]
  rfl

/-! ## What the steps do -/

variable (t : IVec S32x16x400 32) (ht : InTable t) (x : FVec F S100000x128 .f32) (f : FVec F S204800x128 .f32)
variable (O : CellTallies nD τ sig (HIx 1)) (W : Waits sig (HIx 1))

section Chunk

variable (ix : Memref sig .scVector .vmem S400 .i32) (hix : ix.IsWhole) (rw : Memref sig .scVector .vmem S400x128 .f32) (hrw : rw.IsWhole)
variable (isem gsem osem : DmaSem sig) (qt qx : PosShare TreeShare)

/-- A pair of buffers between two steps: the write of chunk `n`'s rows and the load of chunk `m`'s tokens in flight. -/
def Busy (n m : ℕ) : sProp 𝕄 :=
  iprop(Loading (F := F) d L t ix isem m qt ∗ Writing (F := F) d L t ht x rw osem n ∗ Zero (F := F) d L gsem)
/-- A pair of buffers after its last step: the write of chunk `n`'s rows in flight. -/
def Ended (n : ℕ) : sProp 𝕄 :=
  iprop((Owns (F := F) d L ix ∗ TokSh (F := F) d t qt ∗ Zero (F := F) d L isem) ∗ Writing (F := F) d L t ht x rw osem n ∗ Zero (F := F) d L gsem)

/-- The rows of a row buffer credit what the buffer does. -/
abbrev RowCredit : Prop :=
  ∑ j, (rw.slice (S400x128.rowRect gathers_S100000x128_S400x128.axis' j) (S400x128.stride_rowRect gathers_S100000x128_S400x128.axis' j)).view.dmaCredit
    = rw.view.dmaCredit

/-- The gather and its wait: the rows of the tokens in `ix` are in the row buffer. -/
theorem gather_all (hN : RowCredit rw) {n : ℕ} (Φ : PUnit → sProp 𝕄) :
    iprop(Transfers.MayWaits (V d (cV L) (jV L)) (default : HIx 1) O ∗ (TabSh (F := F) d x qx ∗ Owns (F := F) d L rw
        ∗ Holds (F := F) d L ix (chunkIx (F := F) t n) ∗ Zero (F := F) d L gsem) ∗ Owed (F := F) d L O W)
      ⊢ iprop((iprop((Holds (F := F) d L rw (chunkRows (F := F) t ht x n) ∗ Owns (F := F) d L ix ∗ TabSh (F := F) d x qx)
            ∗ Zero (F := F) d L gsem ∗ Owed (F := F) d L O W) -∗ Φ ⟨⟩)
        -∗ wp frame (wpE (defs₀ (F := F)) 𝒱₀ (V d (cV L) (jV L)) none) Set.univ (gatherP L ix rw hrw gsem) Φ) := by
  unfold gatherP
  simp only [wp_bind]
  iintro ⟨#Hmw, H, HO⟩ Hk
  iapply (gather_step (F := F) d L t ht x (n := n) hN) $$ H
  iintro Hga
  iapply (gather_wait (F := F) d L t ht x) $$ [Hga HO]
  · isplitr; · iexact Hmw
    isplitl [Hga] <;> iassumption
  iexact Hk

variable {o o' : Fin 3 → ℕ} {h : ∀ a, o a + S1x1x400.size a ≤ S32x16x400.size a} {h' : ∀ a, o' a + S1x1x400.size a ≤ S32x16x400.size a}
variable {w : Fin 2 → ℕ} {hw : ∀ a, w a + S400x128.size a ≤ S204800x128.size a}

/-- A first step, of chunk `n`, the next through these buffers being chunk `m`. -/
theorem first_step (hN : RowCredit rw) {n m : ℕ} (hn : n < 512) (hm : m < 512) (ho' : o' = tokOff m) (how : w = outOff n) (Φ : PUnit → sProp 𝕄) :
    iprop(Transfers.MayWaits (V d (cV L) (jV L)) (default : HIx 1) O
        ∗ (Loading (F := F) d L t ix isem n qt ∗ Owns (F := F) d L rw ∗ Zero (F := F) d L gsem ∗ Zero (F := F) d L osem)
        ∗ TabSh (F := F) d x qx ∗ OutCh (F := F) d n f ∗ Owed (F := F) d L O W)
      ⊢ iprop((iprop(Busy (F := F) d L t ht x ix rw isem gsem osem qt n m ∗ TabSh (F := F) d x qx ∗ Owed (F := F) d L O W) -∗ Φ ⟨⟩)
        -∗ wp frame (wpE (defs₀ (F := F)) 𝒱₀ (V d (cV L) (jV L)) none) Set.univ
            (firstP L ix hix rw hrw isem gsem osem o h o' h' w hw) Φ) := by
  unfold firstP loadW loadP writeP Busy
  simp only [wp_bind]
  iintro ⟨#Hmw, ⟨Hld, Hr, Hzg, Hzo⟩, Hx, Hc, HO⟩ Hk
  iapply (load_wait (F := F) d L t) $$ [Hld HO]
  · isplitr; · iexact Hmw
    isplitl [Hld] <;> iassumption
  iintro ⟨⟨Hi, Ht⟩, Hzi, HO⟩
  iapply (gather_all (F := F) d L t ht x O W ix rw hrw gsem qx hN (n := n)) $$ [Hx Hr Hi Hzg HO]
  · isplitr; · iexact Hmw
    isplitr [HO]
    · isplitl [Hx]; · iexact Hx
      isplitl [Hr]; · iexact Hr
      isplitl [Hi] <;> iassumption
    · iexact HO
  iintro ⟨⟨Hr, Hi, Hx⟩, Hzg, HO⟩
  iapply (load_step (F := F) d L t hm ho') $$ [Ht Hi Hzi]
  · isplitl [Ht]; · iexact Ht
    isplitl [Hi] <;> iassumption
  iintro Hld
  iapply (write_step (F := F) d L t ht x hn how (f := f)) $$ [Hr Hc Hzo]
  · isplitl [Hr]; · iexact Hr
    isplitl [Hc] <;> iassumption
  iintro Hwr
  iapply Hk
  isplitl [Hld Hwr Hzg]
  · isplitl [Hld]; · iexact Hld
    isplitl [Hwr] <;> iassumption
  isplitl [Hx] <;> iassumption

/-- A middle step, of chunk `m`, after chunk `n` and before chunk `l` through the same buffers. -/
theorem mid_step (hN : RowCredit rw) {n m l : ℕ} (hm : m < 512) (hl : l < 512) (ho' : o' = tokOff l) (how : w = outOff m) (Φ : PUnit → sProp 𝕄) :
    iprop(Transfers.MayWaits (V d (cV L) (jV L)) (default : HIx 1) O ∗ Busy (F := F) d L t ht x ix rw isem gsem osem qt n m
        ∗ TabSh (F := F) d x qx ∗ OutCh (F := F) d m f ∗ Owed (F := F) d L O W)
      ⊢ iprop((iprop(Busy (F := F) d L t ht x ix rw isem gsem osem qt m l ∗ OutCh (F := F) d n (look t ht x) ∗ TabSh (F := F) d x qx
            ∗ Owed (F := F) d L O W) -∗ Φ ⟨⟩)
        -∗ wp frame (wpE (defs₀ (F := F)) 𝒱₀ (V d (cV L) (jV L)) none) Set.univ
            (midP L ix hix rw hrw isem gsem osem o h o' h' w hw) Φ) := by
  unfold midP loadW writeW loadP writeP Busy
  simp only [wp_bind]
  iintro ⟨#Hmw, ⟨Hld, Hwr, Hzg⟩, Hx, Hc, HO⟩ Hk
  iapply (load_wait (F := F) d L t) $$ [Hld HO]
  · isplitr; · iexact Hmw
    isplitl [Hld] <;> iassumption
  iintro ⟨⟨Hi, Ht⟩, Hzi, HO⟩
  iapply (write_wait (F := F) d L t ht x) $$ [Hwr HO]
  · isplitr; · iexact Hmw
    isplitl [Hwr] <;> iassumption
  iintro ⟨⟨Hd, Hr⟩, Hzo, HO⟩
  iapply (gather_all (F := F) d L t ht x O W ix rw hrw gsem qx hN (n := m)) $$ [Hx Hr Hi Hzg HO]
  · isplitr; · iexact Hmw
    isplitr [HO]
    · isplitl [Hx]; · iexact Hx
      isplitl [Hr]; · iexact Hr
      isplitl [Hi] <;> iassumption
    · iexact HO
  iintro ⟨⟨Hr, Hi, Hx⟩, Hzg, HO⟩
  iapply (load_step (F := F) d L t hl ho') $$ [Ht Hi Hzi]
  · isplitl [Ht]; · iexact Ht
    isplitl [Hi] <;> iassumption
  iintro Hld
  iapply (write_step (F := F) d L t ht x hm how (f := f)) $$ [Hr Hc Hzo]
  · isplitl [Hr]; · iexact Hr
    isplitl [Hc] <;> iassumption
  iintro Hwr
  iapply Hk
  isplitl [Hld Hwr Hzg]
  · isplitl [Hld]; · iexact Hld
    isplitl [Hwr] <;> iassumption
  isplitl [Hd]; · iexact Hd
  isplitl [Hx] <;> iassumption

/-- A last step, of chunk `m`, after chunk `n` through the same buffers. -/
theorem last_step (hN : RowCredit rw) {n m : ℕ} (hm : m < 512) (how : w = outOff m) (Φ : PUnit → sProp 𝕄) :
    iprop(Transfers.MayWaits (V d (cV L) (jV L)) (default : HIx 1) O ∗ Busy (F := F) d L t ht x ix rw isem gsem osem qt n m
        ∗ TabSh (F := F) d x qx ∗ OutCh (F := F) d m f ∗ Owed (F := F) d L O W)
      ⊢ iprop((iprop(Ended (F := F) d L t ht x ix rw isem gsem osem qt m ∗ OutCh (F := F) d n (look t ht x) ∗ TabSh (F := F) d x qx
            ∗ Owed (F := F) d L O W) -∗ Φ ⟨⟩)
        -∗ wp frame (wpE (defs₀ (F := F)) 𝒱₀ (V d (cV L) (jV L)) none) Set.univ
            (lastP L ix hix rw hrw isem gsem osem o h w hw) Φ) := by
  unfold lastP loadW writeW writeP Busy Ended
  simp only [wp_bind]
  iintro ⟨#Hmw, ⟨Hld, Hwr, Hzg⟩, Hx, Hc, HO⟩ Hk
  iapply (load_wait (F := F) d L t) $$ [Hld HO]
  · isplitr; · iexact Hmw
    isplitl [Hld] <;> iassumption
  iintro ⟨⟨Hi, Ht⟩, Hzi, HO⟩
  iapply (write_wait (F := F) d L t ht x) $$ [Hwr HO]
  · isplitr; · iexact Hmw
    isplitl [Hwr] <;> iassumption
  iintro ⟨⟨Hd, Hr⟩, Hzo, HO⟩
  iapply (gather_all (F := F) d L t ht x O W ix rw hrw gsem qx hN (n := m)) $$ [Hx Hr Hi Hzg HO]
  · isplitr; · iexact Hmw
    isplitr [HO]
    · isplitl [Hx]; · iexact Hx
      isplitl [Hr]; · iexact Hr
      isplitl [Hi] <;> iassumption
    · iexact HO
  iintro ⟨⟨Hr, Hi, Hx⟩, Hzg, HO⟩
  iapply (write_step (F := F) d L t ht x hm how (f := f)) $$ [Hr Hc Hzo]
  · isplitl [Hr]; · iexact Hr
    isplitl [Hc] <;> iassumption
  iintro Hwr
  iapply Hk
  isplitr [Hd Hx HO]
  · isplitl [Hi Ht Hzi]
    · isplitl [Hi]; · iexact Hi
      isplitl [Ht] <;> iassumption
    isplitl [Hwr] <;> iassumption
  isplitl [Hd]; · iexact Hd
  isplitl [Hx] <;> iassumption

end Chunk

/-! ## The task -/

variable (qt qx : PosShare TreeShare)

/-- The two pairs of buffers between two steps: the even chunks' and the odd ones'. -/
abbrev Busy0 (n m : ℕ) : sProp 𝕄 := Busy (F := F) d L t ht x ix0 rw0 cc0_scratch4.sem cc0_scratch6.sem cc0_scratch8.sem qt.left n m
abbrev Busy1 (n m : ℕ) : sProp 𝕄 := Busy (F := F) d L t ht x ix1 rw1 cc0_scratch5.sem cc0_scratch7.sem cc0_scratch9.sem qt.right n m

/-- Between two pairs of chunks: the loads of chunks `j + 2` and `j + 3` and the writes of chunks `j` and `j + 1` in flight. -/
def Inv (j : ℕ) : sProp 𝕄 :=
  iprop(Busy0 (F := F) d L t ht x qt (base L + j) (base L + (j + 2)) ∗ Busy1 (F := F) d L t ht x qt (base L + (j + 1)) (base L + (j + 3))
    ∗ TabSh (F := F) d x qx ∗ Done (F := F) d L (look t ht x) j ∗ Todo (F := F) d L f (j + 2) ∗ Owed (F := F) d L O W)

/-- A pair of middle chunks, `j + 2` and `j + 3`. -/
theorem pair_step {j : ℕ} (hj : j + 5 < 16)
    {o₀ o₁ o₂ o₃ : Fin 3 → ℕ} {w₀ w₁ : Fin 2 → ℕ}
    {h₀ : ∀ a, o₀ a + S1x1x400.size a ≤ S32x16x400.size a} {h₁ : ∀ a, o₁ a + S1x1x400.size a ≤ S32x16x400.size a}
    {h₂ : ∀ a, o₂ a + S1x1x400.size a ≤ S32x16x400.size a} {h₃ : ∀ a, o₃ a + S1x1x400.size a ≤ S32x16x400.size a}
    {g₀ : ∀ a, w₀ a + S400x128.size a ≤ S204800x128.size a} {g₁ : ∀ a, w₁ a + S400x128.size a ≤ S204800x128.size a}
    (e₂ : o₂ = tokOff (base L + (j + 4))) (e₃ : o₃ = tokOff (base L + (j + 5)))
    (d₀ : w₀ = outOff (base L + (j + 2))) (d₁ : w₁ = outOff (base L + (j + 3))) (Φ : PUnit → sProp 𝕄) :
    iprop(Transfers.MayWaits (V d (cV L) (jV L)) (default : HIx 1) O ∗ Inv (F := F) d L t ht x f O W qt qx j)
      ⊢ iprop((Inv (F := F) d L t ht x f O W qt qx (j + 2) -∗ Φ ⟨⟩)
        -∗ wp frame (wpE (defs₀ (F := F)) 𝒱₀ (V d (cV L) (jV L)) none) Set.univ
            (pairP L o₀ h₀ o₁ h₁ o₂ h₂ o₃ h₃ w₀ g₀ w₁ g₁) Φ) := by
  have hb := base_lt L
  unfold pairP Inv
  simp only [wp_bind]
  iintro ⟨#Hmw, Hb0, Hb1, Hx, Hdone, Htodo, HO⟩ Hk
  ihave Htk := (todo_take (F := F) d L f (j := j + 2) (by omega)) $$ Htodo
  icases Htk with ⟨Hc, Htodo⟩
  iapply (mid_step (F := F) d L t ht x f O W ix0 _ rw0 _ _ _ _ qt.left qx credit_rw0 (by omega) (by omega) e₂ d₀) $$ [Hb0 Hx Hc HO]
  · isplitr; · iexact Hmw
    isplitl [Hb0]; · iexact Hb0
    isplitl [Hx]; · iexact Hx
    isplitl [Hc] <;> iassumption
  iintro ⟨Hb0, Hd, Hx, HO⟩
  ihave Hdone := (done_succ (F := F) d L (look t ht x) j) $$ [Hdone Hd]
  · isplitl [Hdone] <;> iassumption
  ihave Htk := (todo_take (F := F) d L f (j := j + 3) (by omega)) $$ Htodo
  icases Htk with ⟨Hc, Htodo⟩
  iapply (mid_step (F := F) d L t ht x f O W ix1 _ rw1 _ _ _ _ qt.right qx credit_rw1 (by omega) (by omega) e₃ d₁) $$ [Hb1 Hx Hc HO]
  · isplitr; · iexact Hmw
    isplitl [Hb1]; · iexact Hb1
    isplitl [Hx]; · iexact Hx
    isplitl [Hc] <;> iassumption
  iintro ⟨Hb1, Hd, Hx, HO⟩
  ihave Hdone := (done_succ (F := F) d L (look t ht x) (j + 1)) $$ [Hdone Hd]
  · isplitl [Hdone] <;> iassumption
  iapply Hk
  isplitl [Hb0]; · iexact Hb0
  isplitl [Hb1]; · iexact Hb1
  isplitl [Hx]; · iexact Hx
  isplitl [Hdone]; · iexact Hdone
  isplitl [Htodo] <;> iassumption

set_option maxHeartbeats 4000000 in
/-- THE TASK: from a share of the tokens and of the table, its chunks of the output at any contents, its four buffers and its
    six semaphores at zero, to the same with its chunks at the lookup. -/
theorem task :
    iprop(Transfers.MayWaits (V d (cV L) (jV L)) (default : HIx 1) O
        ∗ (TokSh (F := F) d t qt ∗ TabSh (F := F) d x qx ∗ Todo (F := F) d L f 0)
        ∗ (Owns (F := F) d L ix0 ∗ Owns (F := F) d L ix1 ∗ Owns (F := F) d L rw0 ∗ Owns (F := F) d L rw1)
        ∗ (Zero (F := F) d L cc0_scratch4.sem ∗ Zero (F := F) d L cc0_scratch5.sem ∗ Zero (F := F) d L cc0_scratch6.sem
          ∗ Zero (F := F) d L cc0_scratch7.sem ∗ Zero (F := F) d L cc0_scratch8.sem ∗ Zero (F := F) d L cc0_scratch9.sem)
        ∗ Owed (F := F) d L O W)
      ⊢ wp frame (wpE (defs₀ (F := F)) 𝒱₀ (V d (cV L) (jV L)) none) Set.univ
          (cc0__emb_body (F := F) L tokV (Memref.isWhole_whole _) tabV (Memref.isWhole_whole _) outV (Memref.isWhole_whole _)
            ix0 (Memref.isWhole_whole _) ix1 (Memref.isWhole_whole _) rw0 (Memref.isWhole_whole _) rw1 (Memref.isWhole_whole _)
            cc0_scratch4 cc0_scratch5 cc0_scratch6 cc0_scratch7 cc0_scratch8 cc0_scratch9)
          fun _ => iprop((TokSh (F := F) d t qt ∗ TabSh (F := F) d x qx ∗ Done (F := F) d L (look t ht x) 16)
            ∗ (Owns (F := F) d L ix0 ∗ Owns (F := F) d L ix1 ∗ Owns (F := F) d L rw0 ∗ Owns (F := F) d L rw1)
            ∗ (Zero (F := F) d L cc0_scratch4.sem ∗ Zero (F := F) d L cc0_scratch5.sem ∗ Zero (F := F) d L cc0_scratch6.sem
              ∗ Zero (F := F) d L cc0_scratch7.sem ∗ Zero (F := F) d L cc0_scratch8.sem ∗ Zero (F := F) d L cc0_scratch9.sem)
            ∗ Owed (F := F) d L O W) := by
  have hb := base_lt L
  rw [body_eq]
  simp only [wp_bind]
  unfold loadP writeW
  iintro ⟨#Hmw, ⟨Ht, Hx, Htodo⟩, ⟨Hi0, Hi1, Hr0, Hr1⟩, ⟨Hz4, Hz5, Hz6, Hz7, Hz8, Hz9⟩, HO⟩
  ihave Hts := (pointsTo_share (PosShare.mem_left_op_right qt)).1 $$ Ht
  icases Hts with ⟨Ht0, Ht1⟩
  iapply (load_step (F := F) d L t (n := base L + 0) (by omega) (off_tok L 0)) $$ [Ht0 Hi0 Hz4]
  · isplitl [Ht0]; · iexact Ht0
    isplitl [Hi0] <;> iassumption
  iintro Hld0
  iapply (load_step (F := F) d L t (n := base L + 1) (by omega) (off_tok L 1)) $$ [Ht1 Hi1 Hz5]
  · isplitl [Ht1]; · iexact Ht1
    isplitl [Hi1] <;> iassumption
  iintro Hld1
  ihave Htk := (todo_take (F := F) d L f (j := 0) (by omega)) $$ Htodo
  icases Htk with ⟨Hc, Htodo⟩
  iapply (first_step (F := F) d L t ht x f O W ix0 _ rw0 _ _ _ _ qt.left qx credit_rw0 (n := base L + 0) (m := base L + 2)
    (by omega) (by omega) (off_tok L 2) (off_out L 0)) $$ [Hld0 Hr0 Hz6 Hz8 Hx Hc HO]
  · isplitr; · iexact Hmw
    isplitl [Hld0 Hr0 Hz6 Hz8]
    · isplitl [Hld0]; · iexact Hld0
      isplitl [Hr0]; · iexact Hr0
      isplitl [Hz6] <;> iassumption
    isplitl [Hx]; · iexact Hx
    isplitl [Hc] <;> iassumption
  iintro ⟨Hb0, Hx, HO⟩
  ihave Htk := (todo_take (F := F) d L f (j := 1) (by omega)) $$ Htodo
  icases Htk with ⟨Hc, Htodo⟩
  iapply (first_step (F := F) d L t ht x f O W ix1 _ rw1 _ _ _ _ qt.right qx credit_rw1 (n := base L + 1) (m := base L + 3)
    (by omega) (by omega) (off_tok L 3) (off_out L 1)) $$ [Hld1 Hr1 Hz7 Hz9 Hx Hc HO]
  · isplitr; · iexact Hmw
    isplitl [Hld1 Hr1 Hz7 Hz9]
    · isplitl [Hld1]; · iexact Hld1
      isplitl [Hr1]; · iexact Hr1
      isplitl [Hz7] <;> iassumption
    isplitl [Hx]; · iexact Hx
    isplitl [Hc] <;> iassumption
  iintro ⟨Hb1, Hx, HO⟩
  iapply (pair_step (F := F) d L t ht x f O W qt qx (j := 0) (by decide) (off_tok L 4) (off_tok L 5) (off_out L 2) (off_out L 3)) $$ [Hb0 Hb1 Hx Htodo HO]
  · isplitr; · iexact Hmw
    unfold Inv
    isplitl [Hb0]; · iexact Hb0
    isplitl [Hb1]; · iexact Hb1
    isplitl [Hx]; · iexact Hx
    isplitr
    · rw [done_zero]; iempintro
    isplitl [Htodo] <;> iassumption
  iintro H
  iapply (pair_step (F := F) d L t ht x f O W qt qx (j := 2) (by decide) (off_tok L 6) (off_tok L 7) (off_out L 4) (off_out L 5)) $$ [H]
  · isplitr <;> iassumption
  iintro H
  iapply (pair_step (F := F) d L t ht x f O W qt qx (j := 4) (by decide) (off_tok L 8) (off_tok L 9) (off_out L 6) (off_out L 7)) $$ [H]
  · isplitr <;> iassumption
  iintro H
  iapply (pair_step (F := F) d L t ht x f O W qt qx (j := 6) (by decide) (off_tok L 10) (off_tok L 11) (off_out L 8) (off_out L 9)) $$ [H]
  · isplitr <;> iassumption
  iintro H
  iapply (pair_step (F := F) d L t ht x f O W qt qx (j := 8) (by decide) (off_tok L 12) (off_tok L 13) (off_out L 10) (off_out L 11)) $$ [H]
  · isplitr <;> iassumption
  iintro H
  iapply (pair_step (F := F) d L t ht x f O W qt qx (j := 10) (by decide) (off_tok L 14) (off_tok L 15) (off_out L 12) (off_out L 13)) $$ [H]
  · isplitr <;> iassumption
  unfold Inv
  iintro ⟨Hb0, Hb1, Hx, Hdone, Htodo, HO⟩
  ihave Htk := (todo_take (F := F) d L f (j := 14) (by omega)) $$ Htodo
  icases Htk with ⟨Hc, Htodo⟩
  iapply (last_step (F := F) d L t ht x f O W ix0 _ rw0 _ _ _ _ qt.left qx credit_rw0 (m := base L + 14) (by omega) (off_out L 14)) $$ [Hb0 Hx Hc HO]
  · isplitr; · iexact Hmw
    isplitl [Hb0]; · iexact Hb0
    isplitl [Hx]; · iexact Hx
    isplitl [Hc] <;> iassumption
  iintro ⟨He0, Hd, Hx, HO⟩
  ihave Hdone := (done_succ (F := F) d L (look t ht x) 12) $$ [Hdone Hd]
  · isplitl [Hdone] <;> iassumption
  ihave Htk := (todo_take (F := F) d L f (j := 15) (by omega)) $$ Htodo
  icases Htk with ⟨Hc, -⟩
  iapply (last_step (F := F) d L t ht x f O W ix1 _ rw1 _ _ _ _ qt.right qx credit_rw1 (m := base L + 15) (by omega) (off_out L 15)) $$ [Hb1 Hx Hc HO]
  · isplitr; · iexact Hmw
    isplitl [Hb1]; · iexact Hb1
    isplitl [Hx]; · iexact Hx
    isplitl [Hc] <;> iassumption
  iintro ⟨He1, Hd, Hx, HO⟩
  ihave Hdone := (done_succ (F := F) d L (look t ht x) 13) $$ [Hdone Hd]
  · isplitl [Hdone] <;> iassumption
  unfold Ended
  icases He0 with ⟨⟨Hi0, Ht0, Hz4⟩, Hwr0, Hz6⟩
  icases He1 with ⟨⟨Hi1, Ht1, Hz5⟩, Hwr1, Hz7⟩
  iapply (write_wait (F := F) d L t ht x) $$ [Hwr0 HO]
  · isplitr; · iexact Hmw
    isplitl [Hwr0] <;> iassumption
  iintro ⟨⟨Hd, Hr0⟩, Hz8, HO⟩
  ihave Hdone := (done_succ (F := F) d L (look t ht x) 14) $$ [Hdone Hd]
  · isplitl [Hdone] <;> iassumption
  iapply (write_wait (F := F) d L t ht x) $$ [Hwr1 HO]
  · isplitr; · iexact Hmw
    isplitl [Hwr1] <;> iassumption
  iintro ⟨⟨Hd, Hr1⟩, Hz9, HO⟩
  ihave Hdone := (done_succ (F := F) d L (look t ht x) 15) $$ [Hdone Hd]
  · isplitl [Hdone] <;> iassumption
  ihave Ht := (pointsTo_share (PosShare.mem_left_op_right qt)).2 $$ [Ht0 Ht1]
  · isplitl [Ht0] <;> iassumption
  isplitl [Ht Hx Hdone]
  · isplitl [Ht]; · iexact Ht
    isplitl [Hx] <;> iassumption
  isplitl [Hi0 Hi1 Hr0 Hr1]
  · isplitl [Hi0]; · iexact Hi0
    isplitl [Hi1]; · iexact Hi1
    isplitl [Hr0]; · iexact Hr0
    iexact Hr1
  isplitl [Hz4 Hz5 Hz6 Hz7 Hz8 Hz9]
  · isplitl [Hz4]; · iexact Hz4
    isplitl [Hz5]; · iexact Hz5
    isplitl [Hz6]; · iexact Hz6
    isplitl [Hz7]; · iexact Hz7
    isplitl [Hz8]; · iexact Hz8
    iexact Hz9
  iexact HO

end Cert.Proof.EmbIdeal

end
-- ==== Proof.DealIdeal.lean ====
/-
  The arrays dealt out to the 32 tasks: of the tokens and of the table a share each (halvings, what is dealt to no
  task kept by @main), of the output each task's sixteen chunks, which together are the whole output.
-/
module

public import proofs.«01_k».proof.Proof.TaskIdeal

@[expose] public section

noncomputable section

namespace Cert.Proof.EmbIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Dealing an array out in shares -/

/-- What is left of a share after `n` halvings, and what the halving number `k` set aside. -/
def restSh (q : PosShare TreeShare) : ℕ → PosShare TreeShare
  | 0 => q
  | n + 1 => (restSh q n).right
def dealSh (q : PosShare TreeShare) (k : ℕ) : PosShare TreeShare := (restSh q k).left

/-- A points-to at a share is `n` dealt shares of it and the rest. -/
theorem deal_range {ℓ : Loc nD τ sig} (q : PosShare TreeShare) (f : Buf (Elt F) ℓ) (n : ℕ) :
    (ℓ ↦{q} f : sProp 𝕄) = iprop((bigSep (Finset.range n) fun k => ℓ ↦{dealSh q k} f) ∗ ℓ ↦{restSh q n} f) := by
  induction n with
  | zero =>
    rw [Finset.range_zero, bigSep_empty]
    exact (equiv_iff.mp emp_sep).symm
  | succ n ih =>
    rw [ih, Finset.range_add_one, SparseCore.bigSep_insert' (by simp)]
    have h1 : (iprop((bigSep (Finset.range n) fun k => ℓ ↦{dealSh q k} f) ∗ ℓ ↦{restSh q n} f) : sProp 𝕄)
        ⊢ iprop(((ℓ ↦{dealSh q n} f) ∗ bigSep (Finset.range n) fun k => ℓ ↦{dealSh q k} f) ∗ ℓ ↦{restSh q (n + 1)} f) := by
      iintro ⟨H, Hr⟩
      ihave Hr := (pointsTo_share (PosShare.mem_left_op_right (restSh q n))).1 $$ Hr
      icases Hr with ⟨Hl, Hr⟩
      isplitl [H Hl]
      · isplitl [Hl]; · iexact Hl
        iexact H
      iexact Hr
    have h2 : (iprop(((ℓ ↦{dealSh q n} f) ∗ bigSep (Finset.range n) fun k => ℓ ↦{dealSh q k} f) ∗ ℓ ↦{restSh q (n + 1)} f) : sProp 𝕄)
        ⊢ iprop((bigSep (Finset.range n) fun k => ℓ ↦{dealSh q k} f) ∗ ℓ ↦{restSh q n} f) := by
      iintro ⟨⟨Hl, H⟩, Hr⟩
      isplitl [H]; · iexact H
      iapply (pointsTo_share (PosShare.mem_left_op_right (restSh q n))).2
      isplitl [Hl]; · iexact Hl
      iexact Hr
    exact BI.Entails.antisymm h1 h2

/-- A separating conjunction over `Fin n` is one over the numbers below `n`. -/
theorem bigSep_fin (n : ℕ) (Φ : ℕ → sProp 𝕄) : (bigSep (Finset.univ : Finset (Fin n)) fun i => Φ i.val) = bigSep (Finset.range n) Φ := by
  rw [show Finset.range n = (Finset.univ : Finset (Fin n)).map Fin.valEmbedding from by
    rw [Fin.map_valEmbedding_univ, Nat.Iio_eq_range], bigSep_map]
  rfl

theorem deal {ℓ : Loc nD τ sig} (q : PosShare TreeShare) (f : Buf (Elt F) ℓ) (n : ℕ) :
    (ℓ ↦{q} f : sProp 𝕄) = iprop((bigSep (Finset.univ : Finset (Fin n)) fun k => ℓ ↦{dealSh q k.val} f) ∗ ℓ ↦{restSh q n} f) := by
  rw [bigSep_fin n (fun k => (ℓ ↦{dealSh q k} f : sProp 𝕄))]
  exact deal_range q f n

/-- The share of task `(c, s)`, and what is dealt to no task. -/
def taskSh (c s : ℕ) : PosShare TreeShare := dealSh (dealSh fullShare c) s
/-- The points-to of a whole array is the tasks' shares of it and what is dealt to no task. -/
theorem deal_tasks {ℓ : Loc nD τ sig} (f : Buf (Elt F) ℓ) :
    (ℓ ↦{fullShare} f : sProp 𝕄)
      = iprop((bigSep (Finset.univ : Finset (Fin 2)) fun c => bigSep (Finset.univ : Finset (Fin 16)) fun s => ℓ ↦{taskSh c.val s.val} f)
        ∗ (bigSep (Finset.univ : Finset (Fin 2)) fun c => ℓ ↦{restSh (dealSh fullShare c.val) 16} f) ∗ ℓ ↦{restSh fullShare 2} f) := by
  rw [deal fullShare f 2, bigSep_congr (fun c _ => deal (dealSh fullShare c.val) f 16), bigSep_sep']
  exact BI.Entails.antisymm BI.sep_assoc BI.sep_assoc'

/-! ## The output as the tasks' chunks -/

/-- The task with coordinates `(c, s)`. -/
def coords (c : Fin 2) (s : Fin 16) : grid0.Coords :=
  fun | 0 => c | 1 => s | ⟨_ + 2, h⟩ => absurd h (Nat.not_lt.2 (Nat.le_add_left _ _))

theorem base_coords (c : Fin 2) (s : Fin 16) : base (coords c s) = 16 * (2 * s.val + c.val) := rfl

/-- The output's elements that task `(c, s)` owns, and those that SparseCore `c`'s tasks do. -/
def taskSet (c : Fin 2) (s : Fin 16) : Finset S204800x128.Idx := Finset.univ.filter fun p => (p 0).val / 6400 = 2 * s.val + c.val
def coreSet (c : Fin 2) : Finset S204800x128.Idx := Finset.univ.filter fun p => (p 0).val / 6400 % 2 = c.val

theorem mem_outSet {n : ℕ} {p : S204800x128.Idx} : p ∈ outSet n ↔ (p 0).val / 400 = n := Finset.mem_filter.trans (and_iff_right (Finset.mem_univ _))
theorem mem_taskSet {c : Fin 2} {s : Fin 16} {p : S204800x128.Idx} : p ∈ taskSet c s ↔ (p 0).val / 6400 = 2 * s.val + c.val :=
  Finset.mem_filter.trans (and_iff_right (Finset.mem_univ _))
theorem mem_coreSet {c : Fin 2} {p : S204800x128.Idx} : p ∈ coreSet c ↔ (p 0).val / 6400 % 2 = c.val := Finset.mem_filter.trans (and_iff_right (Finset.mem_univ _))

theorem taskSet_eq (c : Fin 2) (s : Fin 16) : (Finset.range 16).biUnion (fun j => outSet (base (coords c s) + j)) = taskSet c s := by
  ext p
  simp only [Finset.mem_biUnion, Finset.mem_range, mem_outSet, mem_taskSet, base_coords]
  constructor
  · rintro ⟨j, hj, e⟩; omega
  · intro e; exact ⟨(p 0).val / 400 - 16 * (2 * s.val + c.val), by omega, by omega⟩
theorem coreSet_eq (c : Fin 2) : (Finset.univ : Finset (Fin 16)).biUnion (taskSet c) = coreSet c := by
  ext p
  have hp : (p 0).val < 204800 := (p 0).isLt
  have hc := c.isLt
  simp only [Finset.mem_biUnion, mem_taskSet, mem_coreSet, Finset.mem_univ, true_and]
  constructor
  · rintro ⟨s, e⟩; omega
  · intro e; exact ⟨⟨(p 0).val / 6400 / 2, by omega⟩, by show (p 0).val / 6400 = 2 * ((p 0).val / 6400 / 2) + c.val; omega⟩
theorem outAll_eq : (Finset.univ : Finset (Fin 2)).biUnion coreSet = Finset.univ := by
  ext p
  simp only [Finset.mem_biUnion, mem_coreSet, Finset.mem_univ, true_and, iff_true]
  exact ⟨⟨(p 0).val / 6400 % 2, Nat.mod_lt _ (by decide)⟩, rfl⟩

theorem outSet_disjoint {a b : ℕ} (h : a ≠ b) : Disjoint (outSet a) (outSet b) := by
  rw [Finset.disjoint_left]; intro p
  simp only [mem_outSet]; omega
theorem taskSet_disjoint (c : Fin 2) {a b : Fin 16} (h : a ≠ b) : Disjoint (taskSet c a) (taskSet c b) := by
  rw [Finset.disjoint_left]; intro p
  have h' : a.val ≠ b.val := fun e => h (Fin.ext e)
  simp only [mem_taskSet]; omega
theorem coreSet_disjoint {a b : Fin 2} (h : a ≠ b) : Disjoint (coreSet a) (coreSet b) := by
  rw [Finset.disjoint_left]; intro p
  have h' : a.val ≠ b.val := fun e => h (Fin.ext e)
  simp only [mem_coreSet]; omega

/-- The whole output is every task's chunks. -/
theorem out_tasks (d : Dev nD) (f : FVec F S204800x128 .f32) :
    (outLoc d ↦{fullShare} (f : Buf (Elt F) (outLoc d)) : sProp 𝕄)
      = bigSep (Finset.univ : Finset (Fin 2)) fun c => bigSep (Finset.univ : Finset (Fin 16)) fun s =>
          bigSep (Finset.range 16) fun j => OutCh (F := F) d (base (coords c s) + j) f := by
  have h1 : ∀ c s, (bigSep (Finset.range 16) fun j => (OutCh (F := F) d (base (coords c s) + j) f : sProp 𝕄)) = outLoc d ↦[taskSet c s]{fullShare} (f : Buf (Elt F) (outLoc d)) := by
    intro c s
    rw [← pointsTo_biUnion (Finset.range 16) (ℓ := outLoc d) (fun j => outSet (base (coords c s) + j)) (fun a _ b _ h => outSet_disjoint (by omega)), taskSet_eq]
  have h2 : ∀ c, (bigSep (Finset.univ : Finset (Fin 16)) fun s => (outLoc d ↦[taskSet c s]{fullShare} (f : Buf (Elt F) (outLoc d)) : sProp 𝕄)) = outLoc d ↦[coreSet c]{fullShare} (f : Buf (Elt F) (outLoc d)) := by
    intro c
    rw [← pointsTo_biUnion Finset.univ (ℓ := outLoc d) (taskSet c) (fun a _ b _ h => taskSet_disjoint c h), coreSet_eq]
  simp only [h1, h2]
  rw [← pointsTo_biUnion Finset.univ (ℓ := outLoc d) coreSet (fun a _ b _ h => coreSet_disjoint h), outAll_eq]

end Cert.Proof.EmbIdeal

end
-- ==== Proof.LaunchIdeal.lean ====
/-
  The launch of the embedding kernel: what each task is handed — a share of the tokens, a share of the table, its
  chunks of the output — and brings back, the obligation of one task, the split of the arrays over the 32 tasks, and @main:
  the tokens cut into blocks, the one call, the rows cut into batch entries. The run says what @main's
  result holds, that the arguments are unchanged, and that every counter is back at zero.
-/
module

public import proofs.«01_k».proof.Proof.DealIdeal

@[expose] public section

noncomputable section

namespace Cert.Proof.EmbIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- The tokens and @main's result, on a device. -/
abbrev argLoc (d : Dev nD) : Loc nD τ sig := (SparseCore.T d).loc main_arg0
abbrev resLoc (d : Dev nD) : Loc nD τ sig := (SparseCore.T d).loc main_v2

/-- The tokens cut into blocks, the table and the output's launch contents, on a device. -/
def tokM (d : Dev nD) : IVec S32x16x400 32 := shapeCast S32x16x400 (m (argLoc d) : IVec S4096x50 32) shapeCasts_S4096x50_S32x16x400
def tabM (d : Dev nD) : FVec F S100000x128 .f32 := m (tabLoc d)
def outM (d : Dev nD) : FVec F S204800x128 .f32 := m (outLoc d)

/-- Every token is a row of the table. -/
def PreOK : Prop := ∀ (d : Dev nD) (j : S4096x50.Idx), ((m (argLoc d) : IVec S4096x50 32) j).toNat < 100000

theorem inTable (h : PreOK m) (d : Dev nD) : InTable (tokM m d) := fun _ => h d _

variable [FloatOps F]

/-! ## What the handshakes carry -/

/-- What a task is handed, and what it brings back. -/
def goR (d : Dev nD) (c : Fin 2) (s : Fin 16) : sProp 𝕄 :=
  iprop(TokSh (F := F) d (tokM m d) (taskSh c.val s.val) ∗ TabSh (F := F) d (tabM m d) (taskSh c.val s.val) ∗ Todo (F := F) d (coords c s) (outM m d) 0)
def tdR (h : PreOK m) (d : Dev nD) (c : Fin 2) (s : Fin 16) : sProp 𝕄 :=
  iprop(TokSh (F := F) d (tokM m d) (taskSh c.val s.val) ∗ TabSh (F := F) d (tabM m d) (taskSh c.val s.val)
    ∗ Done (F := F) d (coords c s) (look (tokM m d) (inTable m h d) (tabM m d)) 16)

instance goR_storable (d : Dev nD) (c : Fin 2) (s : Fin 16) : BI.Storable (upEmb : UEmb _ 𝕄) (goR (F := F) m d c s) := by
  unfold goR Todo; infer_instance
instance tdR_storable (h : PreOK m) (d : Dev nD) (c : Fin 2) (s : Fin 16) : BI.Storable (upEmb : UEmb _ 𝕄) (tdR (F := F) m h d c s) := by
  unfold tdR Done; infer_instance

/-- A SparseCore is handed its sixteen tasks', each task its own. -/
def P (h : PreOK m) : (K (F := F)).Pay (nD := nD) (Val := Elt F) (Name := ℕ) (U := UU) where
  st := fun q d c => match q with | 0 => bigSep (Finset.univ : Finset (Fin 16)) fun s => goR m d c s
  dn := fun q d c => match q with | 0 => bigSep (Finset.univ : Finset (Fin 16)) fun s => tdR m h d c s
  go := fun q d c s => match q with | 0 => goR m d c s
  td := fun q d c s => match q with | 0 => tdR m h d c s
  x := fun _ _ => iprop(emp)

instance P_storable (h : PreOK m) : (P (F := F) m h).IsStorable where
  st q d c := match q with | 0 => (inferInstance : BI.Storable (upEmb : UEmb _ 𝕄) (bigSep (Finset.univ : Finset (Fin 16)) fun s => goR m d c s))
  dn q d c := match q with | 0 => (inferInstance : BI.Storable (upEmb : UEmb _ 𝕄) (bigSep (Finset.univ : Finset (Fin 16)) fun s => tdR m h d c s))
  go q d c s := match q with | 0 => (inferInstance : BI.Storable (upEmb : UEmb _ 𝕄) (goR m d c s))
  td q d c s := match q with | 0 => (inferInstance : BI.Storable (upEmb : UEmb _ 𝕄) (tdR m h d c s))

/-! ## A task's own buffers and semaphores -/

section Tile

variable (d : Dev nD) (L : grid0.Coords)

omit [FloatOps F] in
/-- A semaphore of the task's that is scoped is among its own. -/
theorem mem_sems (sem : DmaSem sig) : ((V d (cV L) (jV L), SemLoc.dma sem) : GSem nD τ sig) ∈ ownCells (V d (cV L) (jV L)) :=
  mem_ownCells.mpr ⟨rfl, rfl⟩

/-- What is left of the task's own semaphores after its six. -/
abbrev semRest : Finset (GSem nD τ sig) :=
  ((((((ownCells (V d (cV L) (jV L))).erase (V d (cV L) (jV L), .dma cc0_scratch4.sem)).erase (V d (cV L) (jV L), .dma cc0_scratch5.sem)).erase
    (V d (cV L) (jV L), .dma cc0_scratch6.sem)).erase (V d (cV L) (jV L), .dma cc0_scratch7.sem)).erase
    (V d (cV L) (jV L), .dma cc0_scratch8.sem)).erase (V d (cV L) (jV L), .dma cc0_scratch9.sem)

omit [FloatOps F] in
theorem sem_ne {a b : DmaSem sig} (h : a ≠ b) : ((V d (cV L) (jV L), SemLoc.dma a) : GSem nD τ sig) ≠ (V d (cV L) (jV L), SemLoc.dma b) :=
  fun e => h (by injection e with _ e; injection e)

omit [FloatOps F] in
/-- The task's own semaphores at zero are its six and the rest. -/
theorem sems_eq :
    (ownSems0 (V d (cV L) (jV L)) : sProp 𝕄)
      = iprop(Zero (F := F) d L cc0_scratch4.sem ∗ Zero (F := F) d L cc0_scratch5.sem ∗ Zero (F := F) d L cc0_scratch6.sem
          ∗ Zero (F := F) d L cc0_scratch7.sem ∗ Zero (F := F) d L cc0_scratch8.sem ∗ Zero (F := F) d L cc0_scratch9.sem
          ∗ bigSep (semRest d L) fun g => semVal g 0) := by
  have ne : ∀ {a b : DmaSem sig}, a ≠ b → ((V d (cV L) (jV L), SemLoc.dma a) : GSem nD τ sig) ≠ (V d (cV L) (jV L), SemLoc.dma b) := fun h => sem_ne d L h
  unfold SparseCore.Cfg.ownSems0
  rw [SparseCore.bigSep_erase' (mem_sems d L cc0_scratch4.sem),
    SparseCore.bigSep_erase' (i := (V d (cV L) (jV L), SemLoc.dma cc0_scratch5.sem)) (by
      simp only [Finset.mem_erase]; exact ⟨ne (by decide), mem_sems d L _⟩),
    SparseCore.bigSep_erase' (i := (V d (cV L) (jV L), SemLoc.dma cc0_scratch6.sem)) (by
      simp only [Finset.mem_erase]; exact ⟨ne (by decide), ne (by decide), mem_sems d L _⟩),
    SparseCore.bigSep_erase' (i := (V d (cV L) (jV L), SemLoc.dma cc0_scratch7.sem)) (by
      simp only [Finset.mem_erase]; exact ⟨ne (by decide), ne (by decide), ne (by decide), mem_sems d L _⟩),
    SparseCore.bigSep_erase' (i := (V d (cV L) (jV L), SemLoc.dma cc0_scratch8.sem)) (by
      simp only [Finset.mem_erase]; exact ⟨ne (by decide), ne (by decide), ne (by decide), ne (by decide), mem_sems d L _⟩),
    SparseCore.bigSep_erase' (i := (V d (cV L) (jV L), SemLoc.dma cc0_scratch9.sem)) (by
      simp only [Finset.mem_erase]; exact ⟨ne (by decide), ne (by decide), ne (by decide), ne (by decide), ne (by decide), mem_sems d L _⟩)]

omit [FloatOps F] in
theorem mem_bufs (b : Ref sig .scVector) (h : ((Proc.scVector (cV L) (jV L)).devRef b).owner = .proc (.scVector (cV L) (jV L))) :
    (Proc.scVector (cV L) (jV L)).devRef b ∈ ownRefs (τ := τ) (sig := sig) (.scVector (cV L) (jV L)) :=
  SparseCore.Cfg.mem_ownRefs_of_owner h

/-- What is left of the task's own buffers after its four. -/
abbrev bufRest : Finset (DevRef τ sig) :=
  ((((ownRefs (τ := τ) (sig := sig) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)

omit [FloatOps F] in
/-- The task's own buffers are its four and the rest. -/
theorem bufs_eq :
    (ownBufs (V d (cV L) (jV L)) : sProp 𝕄)
      = iprop(Owns (F := F) d L ix0 ∗ Owns (F := F) d L ix1 ∗ Owns (F := F) d L rw0 ∗ Owns (F := F) d L rw1
          ∗ bigSep (bufRest L) fun b => iprop(∃ f, ((d, b) : Loc nD τ sig) ↦{fullShare} f)) := by
  have ne : ∀ {a b : Ref sig .scVector}, a ≠ b → (Proc.scVector (cV L) (jV L)).devRef a ≠ (Proc.scVector (cV L) (jV L)).devRef b :=
    fun h e => h (Proc.devRef_injective _ e)
  rw [owns_ix0, owns_ix1, owns_rw0, owns_rw1]
  unfold SparseCore.Cfg.ownBufs
  refine (SparseCore.bigSep_erase' (mem_bufs L cc0_scratch0 rfl)).trans ?_
  rw [SparseCore.bigSep_erase' (i := (Proc.scVector (cV L) (jV L)).devRef cc0_scratch1) (by
      simp only [Finset.mem_erase]; exact ⟨ne (by decide), mem_bufs L _ rfl⟩),
    SparseCore.bigSep_erase' (i := (Proc.scVector (cV L) (jV L)).devRef cc0_scratch2) (by
      simp only [Finset.mem_erase]; exact ⟨ne (by decide), ne (by decide), mem_bufs L _ rfl⟩),
    SparseCore.bigSep_erase' (i := (Proc.scVector (cV L) (jV L)).devRef cc0_scratch3) (by
      simp only [Finset.mem_erase]; exact ⟨ne (by decide), ne (by decide), ne (by decide), mem_bufs L _ rfl⟩)]

/-! ## The obligation of a task -/

set_option maxHeartbeats 1000000 in
theorem tile (hF : (K (F := F)).Facts) (t : IVec S32x16x400 32) (ht : InTable t) (x : FVec F S100000x128 .f32) (f : FVec F S204800x128 .f32)
    (q : PosShare TreeShare) (O : CellTallies nD τ sig (HIx 1)) (W : Waits sig (HIx 1)) (hO : ∀ g, O g none = 0) :
    iprop(levAts (K (F := F)).L (K (F := F)).lev ∗ emp
        ∗ (TokSh (F := F) d t q ∗ TabSh (F := F) d x q ∗ Todo (F := F) d L f 0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__emb_body (F := F) L tokV (Memref.isWhole_whole _) tabV (Memref.isWhole_whole _) outV (Memref.isWhole_whole _)
            ix0 (Memref.isWhole_whole _) ix1 (Memref.isWhole_whole _) rw0 (Memref.isWhole_whole _) rw1 (Memref.isWhole_whole _)
            cc0_scratch4 cc0_scratch5 cc0_scratch6 cc0_scratch7 cc0_scratch8 cc0_scratch9)
          fun _ => iprop((TokSh (F := F) d t q ∗ TabSh (F := F) d x q ∗ Done (F := F) d L (look t ht x) 16)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), sems_eq, bufs_eq]
  iintro ⟨#Hlv, -, HR, ⟨Hi0, Hi1, Hr0, Hr1, Hbufs⟩, ⟨Hz4, Hz5, Hz6, Hz7, Hz8, Hz9, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hwp := (task (F := F) d L t ht x f O W q q) $$ [Hmw HR Hi0 Hi1 Hr0 Hr1 Hz4 Hz5 Hz6 Hz7 Hz8 Hz9 HO]
  · isplitl [Hmw]; · iexact Hmw
    isplitl [HR]; · iexact HR
    isplitl [Hi0 Hi1 Hr0 Hr1]
    · isplitl [Hi0]; · iexact Hi0
      isplitl [Hi1]; · iexact Hi1
      isplitl [Hr0]; · iexact Hr0
      iexact Hr1
    isplitl [Hz4 Hz5 Hz6 Hz7 Hz8 Hz9]
    · isplitl [Hz4]; · iexact Hz4
      isplitl [Hz5]; · iexact Hz5
      isplitl [Hz6]; · iexact Hz6
      isplitl [Hz7]; · iexact Hz7
      isplitl [Hz8]; · iexact Hz8
      iexact Hz9
    unfold Owed
    iexists W; isplitr
    · ipureintro; exact fun p hp => .inl hp
    iexact HO
  iapply (wp_wand_r frame _ _)
  isplitl [Hwp]; · iexact Hwp
  iintro %u ⟨HR, ⟨Hi0, Hi1, Hr0, Hr1⟩, ⟨Hz4, Hz5, Hz6, Hz7, Hz8, Hz9⟩, HO⟩
  isplitl [HR]; · iexact HR
  isplitl [Hi0 Hi1 Hr0 Hr1 Hbufs]
  · isplitl [Hi0]; · iexact Hi0
    isplitl [Hi1]; · iexact Hi1
    isplitl [Hr0]; · iexact Hr0
    isplitl [Hr1]; · iexact Hr1
    iexact Hbufs
  isplitl [Hz4 Hz5 Hz6 Hz7 Hz8 Hz9 Hsems]
  · isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    iexact Hsems
  unfold Owed
  icases HO with ⟨%W', %hW, HO⟩
  iexists W'; isplitr
  · ipureintro; exact fun p hp => (hW p hp).imp_right Or.inl
  iexact HO

theorem defs₀_task (c : Fin τ.nSC) (s : Fin τ.nSub) :
    defs₀ (F := F) (.scVector c s) 0 ()
      = SparseCore.onTile hcore0 hsub0 (fun c s => cc0__emb_body (F := F) (coords c s) tokV (Memref.isWhole_whole _) tabV (Memref.isWhole_whole _) outV (Memref.isWhole_whole _)
            ix0 (Memref.isWhole_whole _) ix1 (Memref.isWhole_whole _) rw0 (Memref.isWhole_whole _) rw1 (Memref.isWhole_whole _)
            cc0_scratch4 cc0_scratch5 cc0_scratch6 cc0_scratch7 cc0_scratch8 cc0_scratch9) ⟨⟩ c s := rfl

set_option maxRecDepth 16384 in
theorem tileObl (h : PreOK m) (hF : (K (F := F)).Facts) : (K (F := F)).TileObl (D (F := F)) 𝒱 (P m h) v₀ 0 := by
  intro d c i O W hO _ _
  simp only [show (P m h).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_task]; simp only [SparseCore.onTile, hci, and_self, ↓reduceDIte]
  exact tile d (coords c i) hF (tokM m d) (inTable m h d) (tabM m d) (outM m d) (taskSh c.val i.val) O W hO

end Tile

theorem vecSplit (h : PreOK m) : (K (F := F)).VecSplit' (P m h) 0 := by
  intro d c
  show (bigSep (Finset.univ : Finset (Fin 16)) fun s => goR m d c s) ⊢ |={Set.univ}=> iprop((bigSep (Finset.univ : Finset (Fin 16)) fun s => goR m d c s)
      ∗ ((bigSep (Finset.univ : Finset (Fin 16)) fun s => tdR m h d c s) -∗ bigSep (Finset.univ : Finset (Fin 16)) fun s => tdR m h d c s))
  iintro H; imodintro
  isplitl [H]; · iexact H
  iintro H; iexact H

/-! ## The launch element of the ghost state -/

def u₀ : UU := (initOf (K (F := F)).hsCells (K (F := F)).hsToks, 1)

theorem hu₀ (h : PreOK m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m h).x q thr) := by
  have hemp : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [hemp]; iempintro
  rw [show (bigSep Finset.univ fun thr : Thread nD τ => bigSep Finset.univ fun q : Fin 1 => (P (F := F) m h).x q thr) = bigSep Finset.univ fun _ => iprop(emp) from
    bigSep_congr fun _ _ => bigSep_univ_of_subsingleton (0 : Fin 1), hemp]
  iempintro

end Cert.Proof.EmbIdeal

end
-- ==== Proof.RunIdeal.lean ====
/-
  The launch: @main on the TensorCore (the tokens cut into blocks, the call of the 32 tasks, the rows cut into batch entries) and the
  program's run, with the result it leaves.
-/
module

public import proofs.«01_k».proof.Proof.LaunchIdeal

@[expose] public section

noncomputable section

namespace Cert.Proof.EmbIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The call's operands and results, all 32 tasks' together -/

variable [FloatOps F]

/-- The gathered rows. -/
def rowsM (h : PreOK m) (d : Dev nD) : FVec F S204800x128 .f32 := look (tokM m d) (inTable m h d) (tabM m d)
/-- @main's result: the gathered rows cut into the 50 of each batch entry. -/
def resM (h : PreOK m) (d : Dev nD) : FVec F S4096x50x128 .f32 :=
  shapeCast S4096x50x128 (rowsM m h d) shapeCasts_S204800x128_S4096x50x128

/-- What @main keeps of the tokens and the table while the tasks run. -/
abbrev keptTok (d : Dev nD) : sProp 𝕄 :=
  iprop((bigSep (Finset.univ : Finset (Fin 2)) fun c => (tokLoc d ↦{restSh (dealSh fullShare c.val) 16} tokM m d)) ∗ tokLoc d ↦{restSh fullShare 2} tokM m d)
abbrev keptTab (d : Dev nD) : sProp 𝕄 :=
  iprop((bigSep (Finset.univ : Finset (Fin 2)) fun c => (tabLoc d ↦{restSh (dealSh fullShare c.val) 16} tabM m d)) ∗ tabLoc d ↦{restSh fullShare 2} tabM m d)

omit [FloatOps F] in
/-- A separating conjunction of three over the tasks, the three apart. -/
theorem tasks_sep (A B C : Fin 2 → Fin 16 → sProp 𝕄) :
    (bigSep (Finset.univ : Finset (Fin 2)) fun c => bigSep (Finset.univ : Finset (Fin 16)) fun s => iprop(A c s ∗ B c s ∗ C c s))
      = iprop((bigSep (Finset.univ : Finset (Fin 2)) fun c => bigSep (Finset.univ : Finset (Fin 16)) fun s => A c s)
          ∗ (bigSep (Finset.univ : Finset (Fin 2)) fun c => bigSep (Finset.univ : Finset (Fin 16)) fun s => B c s)
          ∗ bigSep (Finset.univ : Finset (Fin 2)) fun c => bigSep (Finset.univ : Finset (Fin 16)) fun s => C c s) := by
  simp only [bigSep_sep']

/-- What the call takes: the tokens' and the table's shares and the whole output at its launch contents. -/
theorem st_eq (h : PreOK m) (d : Dev nD) :
    (bigSep Finset.univ fun c : Fin ((K (F := F)).nCore 0) => (P m h).st 0 d c)
      = iprop((bigSep (Finset.univ : Finset (Fin 2)) fun c => bigSep (Finset.univ : Finset (Fin 16)) fun s => TokSh (F := F) d (tokM m d) (taskSh c.val s.val))
          ∗ (bigSep (Finset.univ : Finset (Fin 2)) fun c => bigSep (Finset.univ : Finset (Fin 16)) fun s => TabSh (F := F) d (tabM m d) (taskSh c.val s.val))
          ∗ outLoc d ↦{fullShare} outM m d) := by
  rw [out_tasks]
  refine Eq.trans ?_ (tasks_sep _ _ _)
  refine bigSep_congr fun c _ => Eq.trans (show (P m h).st 0 d c = bigSep (Finset.univ : Finset (Fin 16)) fun s => goR m d c s from rfl) (bigSep_congr fun s _ => ?_)
  unfold goR; rw [todo_all]

/-- What the call gives: the shares back, the output at the gathered rows. -/
theorem dn_eq (h : PreOK m) (d : Dev nD) :
    (bigSep Finset.univ fun c : Fin ((K (F := F)).nCore 0) => (P m h).dn 0 d c)
      = iprop((bigSep (Finset.univ : Finset (Fin 2)) fun c => bigSep (Finset.univ : Finset (Fin 16)) fun s => TokSh (F := F) d (tokM m d) (taskSh c.val s.val))
          ∗ (bigSep (Finset.univ : Finset (Fin 2)) fun c => bigSep (Finset.univ : Finset (Fin 16)) fun s => TabSh (F := F) d (tabM m d) (taskSh c.val s.val))
          ∗ outLoc d ↦{fullShare} rowsM m h d) := by
  rw [out_tasks]
  refine Eq.trans ?_ (tasks_sep _ _ _)
  refine bigSep_congr fun c _ => Eq.trans (show (P m h).dn 0 d c = bigSep (Finset.univ : Finset (Fin 16)) fun s => tdR m h d c s from rfl) (bigSep_congr fun s _ => ?_)
  unfold tdR; rw [done_all]; rfl

/-! ## @main on the TensorCore -/

abbrev a0' : DevRef τ sig := Proc.devRef .tc (main_arg0 : Ref sig .tc)
abbrev a1' : DevRef τ sig := Proc.devRef .tc (main_arg1 : Ref sig .tc)
abbrev b0' : DevRef τ sig := Proc.devRef .tc (main_v0 : Ref sig .tc)
abbrev b1' : DevRef τ sig := Proc.devRef .tc (main_v1 : Ref sig .tc)
abbrev b2' : DevRef τ sig := Proc.devRef .tc (main_v2 : Ref sig .tc)

/-- @main's two operations: the tokens cut into blocks, the rows into batch entries. -/
abbrev opTok : HloOp τ sig (Elt F) := StableHlo.reshape main_arg0 main_v0 (rfl : (.i32 : EltTy) = .i32) shapeCasts_S4096x50_S32x16x400
abbrev opCut : HloOp τ sig (Elt F) := StableHlo.reshape main_v1 main_v2 (rfl : (.f32 : EltTy) = .f32) shapeCasts_S204800x128_S4096x50x128

/-- @main's five arrays. -/
abbrev S5 : Finset (DevRef τ sig) := {a0', a1', b0', b1', b2'}

omit [FloatOps F] in
/-- The five arrays held are the five, each whole. -/
theorem held_S5 (d : Dev nD) (W : Valuation τ sig (Elt F)) :
    (held (SparseCore.T d) S5 W : sProp 𝕄)
      = iprop((argLoc d ↦{fullShare} W a0') ∗ (tabLoc d ↦{fullShare} W a1') ∗ (tokLoc d ↦{fullShare} W b0')
          ∗ (outLoc d ↦{fullShare} W b1') ∗ resLoc d ↦{fullShare} W b2') := by
  unfold held S5
  rw [SparseCore.bigSep_insert' (by decide), SparseCore.bigSep_insert' (by decide), SparseCore.bigSep_insert' (by decide),
    SparseCore.bigSep_insert' (by decide), bigSep_singleton]

/-- The arrays at launch, after the first cut, and after the call. -/
def W0 (d : Dev nD) : Valuation τ sig (Elt F) := fun b => m (d, b)
def W1 (d : Dev nD) : Valuation τ sig (Elt F) := (opTok (F := F)).result (W0 m d)
def W2 (h : PreOK m) (d : Dev nD) : Valuation τ sig (Elt F) := Function.update (W1 m d) b1' (rowsM m h d)

omit [FloatOps F] in
theorem unscoped_held (d : Dev nD) : (unscopedBufs d (fun b => m ((SparseCore.T d).loc b)) : sProp 𝕄) = held (SparseCore.T d) S5 (W0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- Before the call: the tokens cut into blocks, the others at their launch contents. -/
theorem held_W1 (d : Dev nD) :
    (held (SparseCore.T d) S5 ((opTok (F := F)).result (W0 m d)) : sProp 𝕄)
      = iprop((argLoc d ↦{fullShare} m (argLoc d)) ∗ (tabLoc d ↦{fullShare} tabM m d) ∗ (tokLoc d ↦{fullShare} tokM m d)
          ∗ (outLoc d ↦{fullShare} outM m d) ∗ resLoc d ↦{fullShare} m (resLoc d)) := by
  have ne : ∀ b : DevRef τ sig, b ∉ ({b0'} : Finset (DevRef τ sig)) → (opTok (F := F)).result (W0 m d) b = m (d, b) :=
    fun b hb => (opTok (F := F)).result_of_not_mem _ hb
  rw [held_S5, ne a0' (by decide), ne a1' (by decide), ne b1' (by decide), ne b2' (by decide),
    show (opTok (F := F)).result (W0 m d) b0' = tokM m d from (StableHlo.reshape_result _ _ _ _ _ _ _).trans rfl]
  rfl

/-- After the call, the arrays held again. -/
theorem held_W2 (h : PreOK m) (d : Dev nD) :
    (held (SparseCore.T d) S5 (W2 m h d) : sProp 𝕄)
      = iprop((argLoc d ↦{fullShare} m (argLoc d)) ∗ (tabLoc d ↦{fullShare} tabM m d) ∗ (tokLoc d ↦{fullShare} tokM m d)
          ∗ (outLoc d ↦{fullShare} rowsM m h d) ∗ resLoc d ↦{fullShare} m (resLoc d)) := by
  have ne : ∀ b : DevRef τ sig, b ∉ ({b0'} : Finset (DevRef τ sig)) → b ≠ b1' → W2 m h d b = m (d, b) :=
    fun b hb h1 => (Function.update_of_ne h1 _ _).trans ((opTok (F := F)).result_of_not_mem _ hb)
  rw [held_S5, ne a0' (by decide) (by decide), ne a1' (by decide) (by decide), ne b2' (by decide) (by decide),
    show W2 m h d b1' = rowsM m h d from Function.update_self _ _ _,
    show W2 m h d b0' = tokM m d from (Function.update_of_ne (by decide) _ _).trans ((StableHlo.reshape_result _ _ _ _ _ _ _).trans rfl)]
  rfl

/-- At the end: the arguments at their launch contents, the result in place. -/
theorem held_W3 (h : PreOK m) (d : Dev nD) :
    (held (SparseCore.T d) S5 ((opCut (F := F)).result (W2 m h d)) : sProp 𝕄)
      = iprop((argLoc d ↦{fullShare} m (argLoc d)) ∗ (tabLoc d ↦{fullShare} m (tabLoc d))
          ∗ (tokLoc d ↦{fullShare} (opCut (F := F)).result (W2 m h d) b0') ∗ (outLoc d ↦{fullShare} (opCut (F := F)).result (W2 m h d) b1')
          ∗ resLoc d ↦{fullShare} resM m h d) := by
  have ne : ∀ b : DevRef τ sig, b ∉ ({b0'} : Finset (DevRef τ sig)) → b ∉ ({b2'} : Finset (DevRef τ sig)) → b ≠ b1' →
      (opCut (F := F)).result (W2 m h d) b = m (d, b) :=
    fun b h0 h2 h1 => ((opCut (F := F)).result_of_not_mem _ h2).trans
      ((Function.update_of_ne h1 _ _).trans ((opTok (F := F)).result_of_not_mem _ h0))
  have e1 : W2 m h d b1' = rowsM m h d := Function.update_self _ _ _
  have e2 : (opCut (F := F)).result (W2 m h d) b2' = resM m h d := by
    refine (StableHlo.reshape_result _ _ _ _ _ _ _).trans ?_
    rw [e1]; rfl
  rw [held_S5, ne a0' (by decide) (by decide) (by decide), ne a1' (by decide) (by decide) (by decide), e2]

theorem hTok : (opTok (F := F)).bufs ⊆ S5 := show ({a0', b0'} : Finset (DevRef τ sig)) ⊆ S5 by decide
theorem hCut : (opCut (F := F)).bufs ⊆ S5 := show ({b1', b2'} : Finset (DevRef τ sig)) ⊆ S5 by decide

/-- What @main leaves: the arguments at their launch contents, the result in place. -/
abbrev FIN (h : PreOK m) (d : Dev nD) : sProp 𝕄 :=
  iprop((argLoc d ↦{fullShare} m (argLoc d)) ∗ (tabLoc d ↦{fullShare} m (tabLoc d)) ∗ resLoc d ↦{fullShare} resM m h d)

/-- @main on a device's TensorCore: the tokens cut into blocks, the call, the gathered rows cut into batch entries. -/
theorem hmain (h : PreOK m) (κ : GSem nD τ sig → ℕ) (d : Dev nD) :
    iprop((K (F := F)).ctx EH (P m h) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m h d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTok) (S := S5) hTok (V := W0 m d)) $$ [Hb Hheld]
  · isplitl [Hb] <;> iassumption
  iintro ⟨Hb, Hheld⟩
  rw [wp_ret]; imodintro
  ihave Hh := (Entails.of_eq (held_W1 (F := F) m d)) $$ Hheld
  icases Hh with ⟨Ha, Ht, Hk, Ho, Hr⟩
  ihave Hk := (Entails.of_eq (deal_tasks (F := F) (ℓ := tokLoc d) (tokM m d))) $$ Hk
  ihave Ht := (Entails.of_eq (deal_tasks (F := F) (ℓ := tabLoc d) (tabM m d))) $$ Ht
  icases Hk with ⟨Hk, Hk'⟩
  icases Ht with ⟨Ht, Ht'⟩
  iapply ((K (F := F)).wp_run (D (F := F)) 𝒱 (EH := EH) (P := P m h) κ d 0) $$ [Hst Ha Hk Ht Ho Hb Hk' Ht' Hr Hts]
  isplitr; · iexact Hctx
  isplitl [Hst]; · iexact Hst
  isplitl [Hk Ht Ho]
  · rw [st_eq]
    isplitl [Hk]; · iexact Hk
    isplitl [Ht]; · iexact Ht
    iexact Ho
  iintro ⟨Hst, Hdn⟩
  ihave Hdn' := (Entails.of_eq (dn_eq m h d)) $$ Hdn
  icases Hdn' with ⟨Hk, Ht, Ho⟩
  ihave Hk := (Entails.of_eq (deal_tasks (F := F) (ℓ := tokLoc d) (tokM m d)).symm) $$ [Hk Hk']
  · isplitl [Hk]; · iexact Hk
    iexact Hk'
  ihave Ht := (Entails.of_eq (deal_tasks (F := F) (ℓ := tabLoc d) (tabM m d)).symm) $$ [Ht Ht']
  · isplitl [Ht]; · iexact Ht
    iexact Ht'
  iapply (wp_hlo_within 𝒱 (SparseCore.T d) none Set.univ (op := opCut) (S := S5) hCut (V := W2 m h d)) $$ [Hb Ha Ht Hk Ho Hr]
  · isplitl [Hb]; · iexact Hb
    rw [held_W2]
    isplitl [Ha]; · iexact Ha
    isplitl [Ht]; · iexact Ht
    isplitl [Hk]; · iexact Hk
    isplitl [Ho]; · iexact Ho
    iexact Hr
  iintro ⟨Hb, Hheld⟩
  ihave Hh := (Entails.of_eq (held_W3 (F := F) m h d)) $$ Hheld
  icases Hh with ⟨Ha, Ht, -, -, Hr⟩
  rw [wp_ret]; imodintro; imodintro
  isplitl [Hst]; · iexact Hst
  isplitr [Hb Hts]
  · isplitl [Ha]; · iexact Ha
    isplitl [Ht]; · iexact Ht
    iexact Hr
  isplitl [Hb] <;> iassumption

/-- What the claims read of a device's final state. -/
def fq (h : PreOK m) (d : Dev nD) (s' : Phys nD τ sig (Elt F)) : Prop :=
  s'.mem.mem (argLoc d) = m (argLoc d) ∧ s'.mem.mem (tabLoc d) = m (tabLoc d) ∧ s'.mem.mem (resLoc d) = resM m h d

omit [FloatOps F] in
/-- An array held whole is what the memory holds. -/
theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI]; · iexact HSI
    iexact H
  icases H with ⟨%e, HSI, -⟩
  isplitr
  · ipureintro; exact funext fun i => e i (Finset.mem_univ i)
  iexact HSI

set_option maxRecDepth 16384 in
theorem hfin (h : PreOK m) (d : Dev nD) (s' : Phys nD τ sig (Elt F)) : iprop(FIN m h d ∗ SI s') ⊢ (⌜fq m h d s'⌝ : sProp 𝕄) := by
  iintro ⟨⟨Ha, Ht, Hr⟩, HSI⟩
  ihave H := (agree (F := F) (argLoc d) _ s') $$ [Ha HSI]
  · isplitl [Ha]; · iexact Ha
    iexact HSI
  icases H with ⟨%e0, HSI⟩
  ihave H := (agree (F := F) (tabLoc d) _ s') $$ [Ht HSI]
  · isplitl [Ht]; · iexact Ht
    iexact HSI
  icases H with ⟨%e1, HSI⟩
  ihave H := (agree (F := F) (resLoc d) _ s') $$ [Hr HSI]
  · isplitl [Hr]; · iexact Hr
    iexact HSI
  icases H with ⟨%e2, -⟩
  ipureintro; exact ⟨e0, e1, e2⟩

/-! ## The program's run -/

/-- The program's final memory: the arguments unchanged, the result in place, the semaphores back at zero. -/
def QC (h : PreOK m) : PUnit × MemSt nD τ sig (Elt F) → Prop := fun r =>
  (∀ c : Dev nD, r.2.mem (argLoc c) = m (argLoc c) ∧ r.2.mem (tabLoc c) = m (tabLoc c) ∧ r.2.mem (resLoc c) = resM m h c) ∧ r.2.sem = fun _ => 0

theorem run_main [∀ e, Nonempty (Elt F e)] (h : PreOK m) :
    θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := P m h) (A := ∅) facts v₀
    (fun q hq => match q with | 0 => nomatch hq)
    (fun q _ => match q with | 0 => tileObl m h facts)
    (fun q _ => match q with | 0 => SparseCore.Cfg.VecSplit.of_plain (vecSplit m h))
    m ρ main (fun _ => iprop(emp)) (FIN m h) (u₀ (F := F)) (sep_elim_left.trans (hu₀ m h)) (hmain m ρ h) (fq m h) (hfin m h) (QC m h) (fun _ h hz => ⟨h, hz⟩)

end Cert.Proof.EmbIdeal

end
-- ==== Proof.ValueIdeal.lean ====
/-
  The value: @main's result is the problem's lookup, the program's frame, and its run at that value.
-/
module

public import proofs.«01_k».proof.Proof.RunIdeal
public import proofs.«01_k».proof.Proof.Reference

@[expose] public section

noncomputable section

namespace Cert.Proof.EmbIdeal

open Cert.KernelIdeal Cert.KernelIdeal.Gen
open Idealize.ShloMosaic Idealize.SL.Sem
open Cert.Proof.Reference (lookup placeIx rowIx)

variable {F : FTy → Type} [FloatOps F] (m : (ℓ : Loc nD τ sig) → Buf (Elt F) ℓ)

/-- The row of the gathered rows that is batch entry `b`'s token `s`. -/
def flatIx (b s k : ℕ) (hb : b < 4096) (hs : s < 50) (hk : k < 128) : S204800x128.Idx :=
  fun a => match a with
    | 0 => ⟨b * 50 + s, show b * 50 + s < 204800 by omega⟩
    | 1 => ⟨k, hk⟩
    | ⟨_ + 2, h⟩ => absurd h (Nat.not_lt.2 (Nat.le_add_left _ _))

/-- The token looked up for that row is batch entry `b`'s token `s`. -/
theorem tok_flat (a : IVec S4096x50 32) (b s : ℕ) (hb : b < 4096) (hs : s < 50) :
    tokOf (shapeCast S32x16x400 a shapeCasts_S4096x50_S32x16x400) (b * 50 + s) = a (placeIx b s hb hs) := by
  unfold tokOf
  refine congrArg a (Shape.reshapeEquiv_eq_of_rowMajor _ ?_)
  rw [Shape.rowMajor_val_two, Shape.rowMajor_val_three]
  show b * 50 + s = ((b * 50 + s) / 6400 % 32 * 16 + (b * 50 + s) / 400 % 16) * 400 + (b * 50 + s) % 400
  omega

/-- @main's cut reads that row. -/
theorem cut_apply {α : Type} (y : S204800x128.Idx → α) (j : S4096x50x128.Idx) :
    shapeCast S4096x50x128 y shapeCasts_S204800x128_S4096x50x128 j
      = y (flatIx (j 0).val (j 1).val (j 2).val (j 0).isLt (j 1).isLt (j 2).isLt) := by
  refine congrArg y (Shape.reshapeEquiv_eq_of_rowMajor _ ?_)
  rw [Shape.rowMajor_val_two, Shape.rowMajor_val_three]
  rfl

/-- @main's result is the lookup of its arguments. -/
theorem resM_eq (h : PreOK m) (d : Dev nD) : resM m h d = lookup (m (argLoc d)) (h d) (m (tabLoc d)) := by
  funext j
  have e : tokOf (tokM m d) ((j 0).val * 50 + (j 1).val) = (m (argLoc d) : IVec S4096x50 32) (placeIx (j 0).val (j 1).val (j 0).isLt (j 1).isLt) :=
    tok_flat (m (argLoc d)) (j 0).val (j 1).val (j 0).isLt (j 1).isLt
  have e' : (tokOf (tokM m d) ((j 0).val * 50 + (j 1).val)).toNat
      = ((m (argLoc d) : IVec S4096x50 32) (placeIx (j 0).val (j 1).val (j 0).isLt (j 1).isLt)).toNat := by rw [e]
  refine (cut_apply _ j).trans ?_
  unfold rowsM look lookup
  refine congrArg (m (tabLoc d)) (funext fun a => Fin.ext ?_)
  match a with
  | ⟨0, _⟩ => exact e'
  | ⟨1, _⟩ => rfl

end Cert.Proof.EmbIdeal

end
-- ==== Proof.lean ====
/-
  The proof of `Cert.Claim` (Defs.lean): the frames of the kernel, of its idealization and of the reference; the idealization
  preserves the kernel; and the idealized kernel's result is the reference's, from any tokens in the vocabulary.
-/
module

public import proofs.«01_k».proof.Defs
public import proofs.«01_k».proof.Proof.Value
public import proofs.«01_k».proof.Proof.ValueIdeal

@[expose] public section

noncomputable section

namespace Cert.Proof

open Idealize.ShloMosaic Idealize.SL.Sem

/-- The precondition of the kernel, and of its idealization, as its run takes it: every token is a row of the table. -/
theorem pre_kernel (m : (ℓ : Loc Cert.Kernel.nD Cert.Kernel.τ Cert.Kernel.sig) → Buf (Elt Bits) ℓ) (h : Cert.Pre_Kernel m) :
    Emb.PreOK (F := Bits) m := fun d => Words.of_pre (F := Bits) _ _ (h d)
theorem pre_kernelIdeal (m : (ℓ : Loc Cert.KernelIdeal.nD Cert.KernelIdeal.τ Cert.KernelIdeal.sig) → Buf (Elt Ideal) ℓ) (h : Cert.Pre_KernelIdeal m) :
    EmbIdeal.PreOK (F := Ideal) m := fun d => Words.of_pre (F := Ideal) _ _ (h d)

/-- The kernel runs, leaves its arguments and its semaphores at zero. -/
theorem frame_kernel : Cert.quiescent_Kernel := fun m ρ h =>
  (θ_run Cert.Kernel.defs _ _).mono (fun _ r => ⟨fun c => ⟨(r.1 c).1, (r.1 c).2.1⟩, r.2⟩) (Emb.run_main (F := Bits) m ρ (pre_kernel m h))

/-- So does its idealization. -/
theorem frame_kernelIdeal : Cert.quiescent_KernelIdeal := fun m ρ h =>
  (θ_run Cert.KernelIdeal.defs _ _).mono (fun _ r => ⟨fun c => ⟨(r.1 c).1, (r.1 c).2.1⟩, r.2⟩) (EmbIdeal.run_main (F := Ideal) m ρ (pre_kernelIdeal m h))

/-- So does the reference, from any tokens. -/
theorem frame_reference : Cert.quiescent_ReferenceIdeal := fun m ρ _ => Reference.quiet (F := Ideal) m ρ
theorem frame_reference_pre : Cert.quiescent_ReferenceIdeal_pre_in_vocabulary := fun m ρ _ => Reference.quiet (F := Ideal) m ρ

/-- The idealized kernel and the reference, from the same tokens and table, end with the same result: the lookup. -/
theorem same_result : Cert.algebraic_KernelIdeal_ReferenceIdeal := by
  intro m ρ m' ρ' h hm
  have hp := pre_kernelIdeal m h
  have hp' : ∀ (c : Dev Cert.ReferenceIdeal.nD) (j : Cert.ReferenceIdeal.S4096x50.Idx),
      ((m' ((c.tc : Thread Cert.ReferenceIdeal.nD Cert.ReferenceIdeal.τ).loc Cert.ReferenceIdeal.main_arg0) : IVec Cert.ReferenceIdeal.S4096x50 32) j).toNat < 100000 := by
    intro c j
    rw [(hm c).1]
    exact hp c j
  refine ⟨fun c => EmbIdeal.resM (F := Ideal) m hp c,
    (θ_run Cert.KernelIdeal.defs _ _).mono (fun _ r c => ⟨(r.1 c).2.2, (r.1 c).1, (r.1 c).2.1⟩) (EmbIdeal.run_main (F := Ideal) m ρ hp),
    (θ_run Cert.ReferenceIdeal.defs _ _).mono (fun _ r c => ⟨(r c).1.trans ?_, (r c).2⟩) (Reference.run (F := Ideal) m' ρ' hp')⟩
  exact (Reference.lookup_congr (hp c) (hp' c) (hm c).1 (hm c).2).trans (EmbIdeal.resM_eq (F := Ideal) m hp c).symm

/-- Everything claimed. -/
theorem claim : Cert.Claim := ⟨Cert.Kernel.Gen.facts, Cert.KernelIdeal.Gen.facts, Cert.ReferenceIdeal.Gen.facts, Cert.Pre_in_vocabulary.Gen.facts,
  frame_kernel, frame_kernelIdeal, frame_reference, frame_reference_pre, trivial, same_result⟩

end Cert.Proof

end
